-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 4096, 4096]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S1024x1024 : Shape := ⟨2, ![1024, 1024]⟩
abbrev S8192x1024 : Shape := ⟨2, ![8192, 1024]⟩
abbrev S2x1024x1024 : Shape := ⟨3, ![2, 1024, 1024]⟩
abbrev S2x8x1024 : Shape := ⟨3, ![2, 8, 1024]⟩
abbrev S2x2x1024x1024 : Shape := ⟨4, ![2, 2, 1024, 1024]⟩
abbrev S8 : Shape := ⟨1, ![8]⟩
abbrev S12 : Shape := ⟨1, ![12]⟩
abbrev S_ : Shape := ⟨0, ![]⟩
abbrev S1 : Shape := ⟨1, ![1]⟩
abbrev S1x1024x1024 : Shape := ⟨3, ![1, 1024, 1024]⟩
abbrev S1x8x1024 : Shape := ⟨3, ![1, 8, 1024]⟩
abbrev S8x1024 : Shape := ⟨2, ![8, 1024]⟩
abbrev S3x1024 : Shape := ⟨2, ![3, 1024]⟩
abbrev S1027x1024 : Shape := ⟨2, ![1027, 1024]⟩
abbrev S1x1024 : Shape := ⟨2, ![1, 1024]⟩
abbrev S1x1x1024x1024 : Shape := ⟨4, ![1, 1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S4x1024, .f32⟩
  | .hbm, ⟨2, _⟩ => ⟨S1024x1024, .f32⟩
  | .hbm, ⟨3, _⟩ => ⟨S8192x1024, .f32⟩
  | .hbm, ⟨4, _⟩ => ⟨S1024x1024, .bf16⟩
  | .hbm, ⟨5, _⟩ => ⟨S8192x1024, .bf16⟩
  | .hbm, ⟨6, _⟩ => ⟨S2x4096x1024, .bf16⟩
  | .local _ .vmem, ⟨0, _⟩ => ⟨S4x1024, .f32⟩
  | .local _ .vmem, ⟨1, _⟩ => ⟨S1024x1024, .bf16⟩
  | .local _ .vmem, ⟨2, _⟩ => ⟨S8192x1024, .bf16⟩
  | .local _ .vmem, ⟨3, _⟩ => ⟨S2x1024x1024, .f32⟩
  | .local _ .vmem, ⟨4, _⟩ => ⟨S2x8x1024, .f32⟩
  | .local _ .vmem, ⟨5, _⟩ => ⟨S2x2x1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  v41
def k0_mult2 (d0 : Dev nD) : BitVec 32 :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v43 : BitVec 32 := Scalar.addi v2 c0_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1024_i32_33 : BitVec 32 := 1024#32
  let v54 : BitVec 32 := Scalar.muli v53 c1024_i32_33
  let v55 : BitVec 32 := Scalar.addi c4096_i32 v54
  v55
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v57 : BitVec 32 := Scalar.subi v2 c1_i32_34
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1024_i32_41 : BitVec 32 := 1024#32
  let v68 : BitVec 32 := Scalar.muli v67 c1024_i32_41
  v68
def k0_mult4 (d0 : Dev nD) : BitVec 32 :=
  let c4096_i32_50 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v70 : BitVec 32 := Scalar.addi v2 c1_i32_42
  let c4_i32_43 : BitVec 32 := 4#32
  let c0_i32_44 : BitVec 32 := 0#32
  let v71 : BitVec 1 := Scalar.cmpi .eq c4_i32_43 c0_i32_44
  let c1_i32_45 : BitVec 32 := 1#32
  let v72 : BitVec 32 := Scalar.select v71 c1_i32_45 c4_i32_43
  let v73 : BitVec 32 := Scalar.remsi v70 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let c1024_i32_49 : BitVec 32 := 1024#32
  let v81 : BitVec 32 := Scalar.muli v80 c1024_i32_49
  let v82 : BitVec 32 := Scalar.addi c4096_i32_50 v81
  v82
def k0_mult5 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v84 : BitVec 32 := Scalar.subi v2 c2_i32_51
  let c4_i32_52 : BitVec 32 := 4#32
  let c0_i32_53 : BitVec 32 := 0#32
  let v85 : BitVec 1 := Scalar.cmpi .eq c4_i32_52 c0_i32_53
  let c1_i32_54 : BitVec 32 := 1#32
  let v86 : BitVec 32 := Scalar.select v85 c1_i32_54 c4_i32_52
  let v87 : BitVec 32 := Scalar.remsi v84 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  let c1024_i32_58 : BitVec 32 := 1024#32
  let v95 : BitVec 32 := Scalar.muli v94 c1024_i32_58
  v95
def k0_mult6 (d0 : Dev nD) : BitVec 32 :=
  let c4096_i32_67 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v97 : BitVec 32 := Scalar.addi v2 c2_i32_59
  let c4_i32_60 : BitVec 32 := 4#32
  let c0_i32_61 : BitVec 32 := 0#32
  let v98 : BitVec 1 := Scalar.cmpi .eq c4_i32_60 c0_i32_61
  let c1_i32_62 : BitVec 32 := 1#32
  let v99 : BitVec 32 := Scalar.select v98 c1_i32_62 c4_i32_60
  let v100 : BitVec 32 := Scalar.remsi v97 v99
  let c0_i32_64 : BitVec 32 := 0#32
  let v102 : BitVec 1 := Scalar.cmpi .slt v100 c0_i32_64
  let c0_i32_65 : BitVec 32 := 0#32
  let v103 : BitVec 1 := Scalar.cmpi .slt v99 c0_i32_65
  let v104 : BitVec 1 := Scalar.xori v102 v103
  let c0_i32_63 : BitVec 32 := 0#32
  let v101 : BitVec 1 := Scalar.cmpi .ne v100 c0_i32_63
  let v105 : BitVec 1 := Scalar.andi v104 v101
  let v106 : BitVec 32 := Scalar.addi v100 v99
  let v107 : BitVec 32 := Scalar.select v105 v106 v100
  let c1024_i32_66 : BitVec 32 := 1024#32
  let v108 : BitVec 32 := Scalar.muli v107 c1024_i32_66
  let v109 : BitVec 32 := Scalar.addi c4096_i32_67 v108
  v109
def k0_mult7 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v111 : BitVec 32 := Scalar.subi v2 c3_i32
  let c4_i32_68 : BitVec 32 := 4#32
  let c0_i32_69 : BitVec 32 := 0#32
  let v112 : BitVec 1 := Scalar.cmpi .eq c4_i32_68 c0_i32_69
  let c1_i32_70 : BitVec 32 := 1#32
  let v113 : BitVec 32 := Scalar.select v112 c1_i32_70 c4_i32_68
  let v114 : BitVec 32 := Scalar.remsi v111 v113
  let c0_i32_72 : BitVec 32 := 0#32
  let v116 : BitVec 1 := Scalar.cmpi .slt v114 c0_i32_72
  let c0_i32_73 : BitVec 32 := 0#32
  let v117 : BitVec 1 := Scalar.cmpi .slt v113 c0_i32_73
  let v118 : BitVec 1 := Scalar.xori v116 v117
  let c0_i32_71 : BitVec 32 := 0#32
  let v115 : BitVec 1 := Scalar.cmpi .ne v114 c0_i32_71
  let v119 : BitVec 1 := Scalar.andi v118 v115
  let v120 : BitVec 32 := Scalar.addi v114 v113
  let v121 : BitVec 32 := Scalar.select v119 v120 v114
  let c1024_i32_74 : BitVec 32 := 1024#32
  let v122 : BitVec 32 := Scalar.muli v121 c1024_i32_74
  v122
def k0_mult8 (d0 : Dev nD) : BitVec 32 :=
  let c4096_i32_83 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v124 : BitVec 32 := Scalar.addi v2 c3_i32_75
  let c4_i32_76 : BitVec 32 := 4#32
  let c0_i32_77 : BitVec 32 := 0#32
  let v125 : BitVec 1 := Scalar.cmpi .eq c4_i32_76 c0_i32_77
  let c1_i32_78 : BitVec 32 := 1#32
  let v126 : BitVec 32 := Scalar.select v125 c1_i32_78 c4_i32_76
  let v127 : BitVec 32 := Scalar.remsi v124 v126
  let c0_i32_80 : BitVec 32 := 0#32
  let v129 : BitVec 1 := Scalar.cmpi .slt v127 c0_i32_80
  let c0_i32_81 : BitVec 32 := 0#32
  let v130 : BitVec 1 := Scalar.cmpi .slt v126 c0_i32_81
  let v131 : BitVec 1 := Scalar.xori v129 v130
  let c0_i32_79 : BitVec 32 := 0#32
  let v128 : BitVec 1 := Scalar.cmpi .ne v127 c0_i32_79
  let v132 : BitVec 1 := Scalar.andi v131 v128
  let v133 : BitVec 32 := Scalar.addi v127 v126
  let v134 : BitVec 32 := Scalar.select v132 v133 v127
  let c1024_i32_82 : BitVec 32 := 1024#32
  let v135 : BitVec 32 := Scalar.muli v134 c1024_i32_82
  let v136 : BitVec 32 := Scalar.addi c4096_i32_83 v135
  v136
def k0_mult9 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := v41
  let c8_i32 : BitVec 32 := 8#32
  let v138 : BitVec 32 := Scalar.subi v42 c8_i32
  let c0_i32_84 : BitVec 32 := 0#32
  let v139 : BitVec 32 := Scalar.maxsi v138 c0_i32_84
  v139
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := v41
  let c0_i32_89 : BitVec 32 := 0#32
  ![v42.toNat, 0]
def k0_off2 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := v41
  let c8_i32 : BitVec 32 := 8#32
  let v138 : BitVec 32 := Scalar.subi v42 c8_i32
  let c0_i32_84 : BitVec 32 := 0#32
  let v139 : BitVec 32 := Scalar.maxsi v138 c0_i32_84
  let v140 : BitVec 32 := v139
  let c0_i32_94 : BitVec 32 := 0#32
  ![v140.toNat, 0]
def k0_mult10 (d0 : Dev nD) : BitVec 32 :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let v43 : BitVec 32 := Scalar.addi v2 c0_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1024_i32_33 : BitVec 32 := 1024#32
  let v54 : BitVec 32 := Scalar.muli v53 c1024_i32_33
  let v55 : BitVec 32 := Scalar.addi c4096_i32 v54
  let v56 : BitVec 32 := v55
  let c8_i32_95 : BitVec 32 := 8#32
  let v151 : BitVec 32 := Scalar.subi v56 c8_i32_95
  let c0_i32_96 : BitVec 32 := 0#32
  let v152 : BitVec 32 := Scalar.maxsi v151 c0_i32_96
  v152
def k0_off3 (d0 : Dev nD) (c0_i32_26 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c0_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1024_i32_33 : BitVec 32 := 1024#32
  let v54 : BitVec 32 := Scalar.muli v53 c1024_i32_33
  let v55 : BitVec 32 := Scalar.addi c4096_i32 v54
  let v56 : BitVec 32 := v55
  let c0_i32_101 : BitVec 32 := 0#32
  ![v56.toNat, 0]
def k0_off4 (d0 : Dev nD) (c0_i32_26 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c0_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1024_i32_33 : BitVec 32 := 1024#32
  let v54 : BitVec 32 := Scalar.muli v53 c1024_i32_33
  let v55 : BitVec 32 := Scalar.addi c4096_i32 v54
  let v56 : BitVec 32 := v55
  let c8_i32_95 : BitVec 32 := 8#32
  let v151 : BitVec 32 := Scalar.subi v56 c8_i32_95
  let c0_i32_96 : BitVec 32 := 0#32
  let v152 : BitVec 32 := Scalar.maxsi v151 c0_i32_96
  let v153 : BitVec 32 := v152
  let c0_i32_106 : BitVec 32 := 0#32
  ![v153.toNat, 0]
def k0_off5 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := v41
  let v214 : Index := Scalar.indexCast v42
  let c0_133 : Index := 0#32
  ![v214.toNat, 0]
def k0_mult11 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v57 : BitVec 32 := Scalar.subi v2 c1_i32_34
  let c4_i32_35 : BitVec 32 := 4#32
  let c0_i32_36 : BitVec 32 := 0#32
  let v58 : BitVec 1 := Scalar.cmpi .eq c4_i32_35 c0_i32_36
  let c1_i32_37 : BitVec 32 := 1#32
  let v59 : BitVec 32 := Scalar.select v58 c1_i32_37 c4_i32_35
  let v60 : BitVec 32 := Scalar.remsi v57 v59
  let c0_i32_39 : BitVec 32 := 0#32
  let v62 : BitVec 1 := Scalar.cmpi .slt v60 c0_i32_39
  let c0_i32_40 : BitVec 32 := 0#32
  let v63 : BitVec 1 := Scalar.cmpi .slt v59 c0_i32_40
  let v64 : BitVec 1 := Scalar.xori v62 v63
  let c0_i32_38 : BitVec 32 := 0#32
  let v61 : BitVec 1 := Scalar.cmpi .ne v60 c0_i32_38
  let v65 : BitVec 1 := Scalar.andi v64 v61
  let v66 : BitVec 32 := Scalar.addi v60 v59
  let v67 : BitVec 32 := Scalar.select v65 v66 v60
  let c1024_i32_41 : BitVec 32 := 1024#32
  let v68 : BitVec 32 := Scalar.muli v67 c1024_i32_41
  let v69 : BitVec 32 := v68
  let c8_i32_134 : BitVec 32 := 8#32
  let v216 : BitVec 32 := Scalar.subi v69 c8_i32_134
  let c0_i32_135 : BitVec 32 := 0#32
  let v217 : BitVec 32 := Scalar.maxsi v216 c0_i32_135
  v217
def k0_off6 (d0 : Dev nD) (c0_i32_26 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c0_i32_26
  let c4_i32_27 : BitVec 32 := 4#32
  let c0_i32_28 : BitVec 32 := 0#32
  let v44 : BitVec 1 := Scalar.cmpi .eq c4_i32_27 c0_i32_28
  let c1_i32_29 : BitVec 32 := 1#32
  let v45 : BitVec 32 := Scalar.select v44 c1_i32_29 c4_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1024_i32_33 : BitVec 32 := 1024#32
  let v54 : BitVec 32 := Scalar.muli v53 c1024_i32_33
  let v55 : BitVec 32 := Scalar.addi c4096_i32 v54
  let v56 : BitVec 32 := v55
  let v279 : Index := Scalar.indexCast v56
  let c0_177 : Index := 0#32
  ![v279.toNat, 0]
def k0_mult12 (d0 : Dev nD) : BitVec 32 :=
  let c4096_i32_50 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v70 : BitVec 32 := Scalar.addi v2 c1_i32_42
  let c4_i32_43 : BitVec 32 := 4#32
  let c0_i32_44 : BitVec 32 := 0#32
  let v71 : BitVec 1 := Scalar.cmpi .eq c4_i32_43 c0_i32_44
  let c1_i32_45 : BitVec 32 := 1#32
  let v72 : BitVec 32 := Scalar.select v71 c1_i32_45 c4_i32_43
  let v73 : BitVec 32 := Scalar.remsi v70 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let c1024_i32_49 : BitVec 32 := 1024#32
  let v81 : BitVec 32 := Scalar.muli v80 c1024_i32_49
  let v82 : BitVec 32 := Scalar.addi c4096_i32_50 v81
  let v83 : BitVec 32 := v82
  let c8_i32_178 : BitVec 32 := 8#32
  let v281 : BitVec 32 := Scalar.subi v83 c8_i32_178
  let c0_i32_179 : BitVec 32 := 0#32
  let v282 : BitVec 32 := Scalar.maxsi v281 c0_i32_179
  v282
def k0_mult13 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_190 : BitVec 32 := 0#32
  let v294 : BitVec 32 := Scalar.subi v2 c0_i32_190
  let c4_i32_191 : BitVec 32 := 4#32
  let c0_i32_192 : BitVec 32 := 0#32
  let v295 : BitVec 1 := Scalar.cmpi .eq c4_i32_191 c0_i32_192
  let c1_i32_193 : BitVec 32 := 1#32
  let v296 : BitVec 32 := Scalar.select v295 c1_i32_193 c4_i32_191
  let v297 : BitVec 32 := Scalar.remsi v294 v296
  let c0_i32_195 : BitVec 32 := 0#32
  let v299 : BitVec 1 := Scalar.cmpi .slt v297 c0_i32_195
  let c0_i32_196 : BitVec 32 := 0#32
  let v300 : BitVec 1 := Scalar.cmpi .slt v296 c0_i32_196
  let v301 : BitVec 1 := Scalar.xori v299 v300
  let c0_i32_194 : BitVec 32 := 0#32
  let v298 : BitVec 1 := Scalar.cmpi .ne v297 c0_i32_194
  let v302 : BitVec 1 := Scalar.andi v301 v298
  let v303 : BitVec 32 := Scalar.addi v297 v296
  let v304 : BitVec 32 := Scalar.select v302 v303 v297
  let c1024_i32_197 : BitVec 32 := 1024#32
  let v305 : BitVec 32 := Scalar.muli v304 c1024_i32_197
  v305
def k0_mult14 (d0 : Dev nD) : BitVec 32 :=
  let c4096_i32_206 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_198 : BitVec 32 := 0#32
  let v307 : BitVec 32 := Scalar.addi v2 c0_i32_198
  let c4_i32_199 : BitVec 32 := 4#32
  let c0_i32_200 : BitVec 32 := 0#32
  let v308 : BitVec 1 := Scalar.cmpi .eq c4_i32_199 c0_i32_200
  let c1_i32_201 : BitVec 32 := 1#32
  let v309 : BitVec 32 := Scalar.select v308 c1_i32_201 c4_i32_199
  let v310 : BitVec 32 := Scalar.remsi v307 v309
  let c0_i32_203 : BitVec 32 := 0#32
  let v312 : BitVec 1 := Scalar.cmpi .slt v310 c0_i32_203
  let c0_i32_204 : BitVec 32 := 0#32
  let v313 : BitVec 1 := Scalar.cmpi .slt v309 c0_i32_204
  let v314 : BitVec 1 := Scalar.xori v312 v313
  let c0_i32_202 : BitVec 32 := 0#32
  let v311 : BitVec 1 := Scalar.cmpi .ne v310 c0_i32_202
  let v315 : BitVec 1 := Scalar.andi v314 v311
  let v316 : BitVec 32 := Scalar.addi v310 v309
  let v317 : BitVec 32 := Scalar.select v315 v316 v310
  let c1024_i32_205 : BitVec 32 := 1024#32
  let v318 : BitVec 32 := Scalar.muli v317 c1024_i32_205
  let v319 : BitVec 32 := Scalar.addi c4096_i32_206 v318
  v319
def k0_dev3 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_211 : BitVec 32 := 1#32
  let v321 : BitVec 32 := Scalar.muli v24 c1_i32_211
  let v322 : BitVec 32 := Scalar.addi c0_i32_212 v321
  v322.toNat
def k0_dev4 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_219 : BitVec 32 := 1#32
  let v330 : BitVec 32 := Scalar.muli v13 c1_i32_219
  let v331 : BitVec 32 := Scalar.addi c0_i32_220 v330
  v331.toNat
def k0_mult15 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v84 : BitVec 32 := Scalar.subi v2 c2_i32_51
  let c4_i32_52 : BitVec 32 := 4#32
  let c0_i32_53 : BitVec 32 := 0#32
  let v85 : BitVec 1 := Scalar.cmpi .eq c4_i32_52 c0_i32_53
  let c1_i32_54 : BitVec 32 := 1#32
  let v86 : BitVec 32 := Scalar.select v85 c1_i32_54 c4_i32_52
  let v87 : BitVec 32 := Scalar.remsi v84 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  let c1024_i32_58 : BitVec 32 := 1024#32
  let v95 : BitVec 32 := Scalar.muli v94 c1024_i32_58
  let v96 : BitVec 32 := v95
  let c8_i32_256 : BitVec 32 := 8#32
  let v391 : BitVec 32 := Scalar.subi v96 c8_i32_256
  let c0_i32_257 : BitVec 32 := 0#32
  let v392 : BitVec 32 := Scalar.maxsi v391 c0_i32_257
  v392
def k0_mult16 (d0 : Dev nD) : BitVec 32 :=
  let c4096_i32_67 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v97 : BitVec 32 := Scalar.addi v2 c2_i32_59
  let c4_i32_60 : BitVec 32 := 4#32
  let c0_i32_61 : BitVec 32 := 0#32
  let v98 : BitVec 1 := Scalar.cmpi .eq c4_i32_60 c0_i32_61
  let c1_i32_62 : BitVec 32 := 1#32
  let v99 : BitVec 32 := Scalar.select v98 c1_i32_62 c4_i32_60
  let v100 : BitVec 32 := Scalar.remsi v97 v99
  let c0_i32_64 : BitVec 32 := 0#32
  let v102 : BitVec 1 := Scalar.cmpi .slt v100 c0_i32_64
  let c0_i32_65 : BitVec 32 := 0#32
  let v103 : BitVec 1 := Scalar.cmpi .slt v99 c0_i32_65
  let v104 : BitVec 1 := Scalar.xori v102 v103
  let c0_i32_63 : BitVec 32 := 0#32
  let v101 : BitVec 1 := Scalar.cmpi .ne v100 c0_i32_63
  let v105 : BitVec 1 := Scalar.andi v104 v101
  let v106 : BitVec 32 := Scalar.addi v100 v99
  let v107 : BitVec 32 := Scalar.select v105 v106 v100
  let c1024_i32_66 : BitVec 32 := 1024#32
  let v108 : BitVec 32 := Scalar.muli v107 c1024_i32_66
  let v109 : BitVec 32 := Scalar.addi c4096_i32_67 v108
  let v110 : BitVec 32 := v109
  let c8_i32_300 : BitVec 32 := 8#32
  let v456 : BitVec 32 := Scalar.subi v110 c8_i32_300
  let c0_i32_301 : BitVec 32 := 0#32
  let v457 : BitVec 32 := Scalar.maxsi v456 c0_i32_301
  v457
def k0_mult17 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_328 : BitVec 32 := 0#32
  let v481 : BitVec 32 := Scalar.subi v2 c0_i32_328
  let c1_i32_329 : BitVec 32 := 1#32
  let v482 : BitVec 32 := Scalar.subi v481 c1_i32_329
  let c4_i32_330 : BitVec 32 := 4#32
  let c0_i32_331 : BitVec 32 := 0#32
  let v483 : BitVec 1 := Scalar.cmpi .eq c4_i32_330 c0_i32_331
  let c1_i32_332 : BitVec 32 := 1#32
  let v484 : BitVec 32 := Scalar.select v483 c1_i32_332 c4_i32_330
  let v485 : BitVec 32 := Scalar.remsi v482 v484
  let c0_i32_334 : BitVec 32 := 0#32
  let v487 : BitVec 1 := Scalar.cmpi .slt v485 c0_i32_334
  let c0_i32_335 : BitVec 32 := 0#32
  let v488 : BitVec 1 := Scalar.cmpi .slt v484 c0_i32_335
  let v489 : BitVec 1 := Scalar.xori v487 v488
  let c0_i32_333 : BitVec 32 := 0#32
  let v486 : BitVec 1 := Scalar.cmpi .ne v485 c0_i32_333
  let v490 : BitVec 1 := Scalar.andi v489 v486
  let v491 : BitVec 32 := Scalar.addi v485 v484
  let v492 : BitVec 32 := Scalar.select v490 v491 v485
  let c1024_i32_336 : BitVec 32 := 1024#32
  let v493 : BitVec 32 := Scalar.muli v492 c1024_i32_336
  v493
def k0_off7 (d0 : Dev nD) (c0_i32_328 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v481 : BitVec 32 := Scalar.subi v2 c0_i32_328
  let c1_i32_329 : BitVec 32 := 1#32
  let v482 : BitVec 32 := Scalar.subi v481 c1_i32_329
  let c4_i32_330 : BitVec 32 := 4#32
  let c0_i32_331 : BitVec 32 := 0#32
  let v483 : BitVec 1 := Scalar.cmpi .eq c4_i32_330 c0_i32_331
  let c1_i32_332 : BitVec 32 := 1#32
  let v484 : BitVec 32 := Scalar.select v483 c1_i32_332 c4_i32_330
  let v485 : BitVec 32 := Scalar.remsi v482 v484
  let c0_i32_334 : BitVec 32 := 0#32
  let v487 : BitVec 1 := Scalar.cmpi .slt v485 c0_i32_334
  let c0_i32_335 : BitVec 32 := 0#32
  let v488 : BitVec 1 := Scalar.cmpi .slt v484 c0_i32_335
  let v489 : BitVec 1 := Scalar.xori v487 v488
  let c0_i32_333 : BitVec 32 := 0#32
  let v486 : BitVec 1 := Scalar.cmpi .ne v485 c0_i32_333
  let v490 : BitVec 1 := Scalar.andi v489 v486
  let v491 : BitVec 32 := Scalar.addi v485 v484
  let v492 : BitVec 32 := Scalar.select v490 v491 v485
  let c1024_i32_336 : BitVec 32 := 1024#32
  let v493 : BitVec 32 := Scalar.muli v492 c1024_i32_336
  let v494 : BitVec 32 := v493
  let v495 : Index := Scalar.indexCast v494
  let c0_337 : Index := 0#32
  ![v495.toNat, 0]
def k0_mult18 (d0 : Dev nD) : BitVec 32 :=
  let c4096_i32_369 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_360 : BitVec 32 := 0#32
  let v515 : BitVec 32 := Scalar.addi v2 c0_i32_360
  let c1_i32_361 : BitVec 32 := 1#32
  let v516 : BitVec 32 := Scalar.addi v515 c1_i32_361
  let c4_i32_362 : BitVec 32 := 4#32
  let c0_i32_363 : BitVec 32 := 0#32
  let v517 : BitVec 1 := Scalar.cmpi .eq c4_i32_362 c0_i32_363
  let c1_i32_364 : BitVec 32 := 1#32
  let v518 : BitVec 32 := Scalar.select v517 c1_i32_364 c4_i32_362
  let v519 : BitVec 32 := Scalar.remsi v516 v518
  let c0_i32_366 : BitVec 32 := 0#32
  let v521 : BitVec 1 := Scalar.cmpi .slt v519 c0_i32_366
  let c0_i32_367 : BitVec 32 := 0#32
  let v522 : BitVec 1 := Scalar.cmpi .slt v518 c0_i32_367
  let v523 : BitVec 1 := Scalar.xori v521 v522
  let c0_i32_365 : BitVec 32 := 0#32
  let v520 : BitVec 1 := Scalar.cmpi .ne v519 c0_i32_365
  let v524 : BitVec 1 := Scalar.andi v523 v520
  let v525 : BitVec 32 := Scalar.addi v519 v518
  let v526 : BitVec 32 := Scalar.select v524 v525 v519
  let c1024_i32_368 : BitVec 32 := 1024#32
  let v527 : BitVec 32 := Scalar.muli v526 c1024_i32_368
  let v528 : BitVec 32 := Scalar.addi c4096_i32_369 v527
  v528
def k0_off8 (d0 : Dev nD) (c0_i32_360 : BitVec 32) : Fin 2 → Nat :=
  let c4096_i32_369 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v515 : BitVec 32 := Scalar.addi v2 c0_i32_360
  let c1_i32_361 : BitVec 32 := 1#32
  let v516 : BitVec 32 := Scalar.addi v515 c1_i32_361
  let c4_i32_362 : BitVec 32 := 4#32
  let c0_i32_363 : BitVec 32 := 0#32
  let v517 : BitVec 1 := Scalar.cmpi .eq c4_i32_362 c0_i32_363
  let c1_i32_364 : BitVec 32 := 1#32
  let v518 : BitVec 32 := Scalar.select v517 c1_i32_364 c4_i32_362
  let v519 : BitVec 32 := Scalar.remsi v516 v518
  let c0_i32_366 : BitVec 32 := 0#32
  let v521 : BitVec 1 := Scalar.cmpi .slt v519 c0_i32_366
  let c0_i32_367 : BitVec 32 := 0#32
  let v522 : BitVec 1 := Scalar.cmpi .slt v518 c0_i32_367
  let v523 : BitVec 1 := Scalar.xori v521 v522
  let c0_i32_365 : BitVec 32 := 0#32
  let v520 : BitVec 1 := Scalar.cmpi .ne v519 c0_i32_365
  let v524 : BitVec 1 := Scalar.andi v523 v520
  let v525 : BitVec 32 := Scalar.addi v519 v518
  let v526 : BitVec 32 := Scalar.select v524 v525 v519
  let c1024_i32_368 : BitVec 32 := 1024#32
  let v527 : BitVec 32 := Scalar.muli v526 c1024_i32_368
  let v528 : BitVec 32 := Scalar.addi c4096_i32_369 v527
  let v529 : BitVec 32 := v528
  let v530 : Index := Scalar.indexCast v529
  let c0_370 : Index := 0#32
  ![v530.toNat, 0]
def k0_mult19 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_376 : BitVec 32 := 1#32
  let v538 : BitVec 32 := Scalar.subi v2 c1_i32_376
  let c4_i32_377 : BitVec 32 := 4#32
  let c0_i32_378 : BitVec 32 := 0#32
  let v539 : BitVec 1 := Scalar.cmpi .eq c4_i32_377 c0_i32_378
  let c1_i32_379 : BitVec 32 := 1#32
  let v540 : BitVec 32 := Scalar.select v539 c1_i32_379 c4_i32_377
  let v541 : BitVec 32 := Scalar.remsi v538 v540
  let c0_i32_381 : BitVec 32 := 0#32
  let v543 : BitVec 1 := Scalar.cmpi .slt v541 c0_i32_381
  let c0_i32_382 : BitVec 32 := 0#32
  let v544 : BitVec 1 := Scalar.cmpi .slt v540 c0_i32_382
  let v545 : BitVec 1 := Scalar.xori v543 v544
  let c0_i32_380 : BitVec 32 := 0#32
  let v542 : BitVec 1 := Scalar.cmpi .ne v541 c0_i32_380
  let v546 : BitVec 1 := Scalar.andi v545 v542
  let v547 : BitVec 32 := Scalar.addi v541 v540
  let v548 : BitVec 32 := Scalar.select v546 v547 v541
  let c1024_i32_383 : BitVec 32 := 1024#32
  let v549 : BitVec 32 := Scalar.muli v548 c1024_i32_383
  v549
def k0_mult20 (d0 : Dev nD) : BitVec 32 :=
  let c4096_i32_392 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_384 : BitVec 32 := 1#32
  let v551 : BitVec 32 := Scalar.addi v2 c1_i32_384
  let c4_i32_385 : BitVec 32 := 4#32
  let c0_i32_386 : BitVec 32 := 0#32
  let v552 : BitVec 1 := Scalar.cmpi .eq c4_i32_385 c0_i32_386
  let c1_i32_387 : BitVec 32 := 1#32
  let v553 : BitVec 32 := Scalar.select v552 c1_i32_387 c4_i32_385
  let v554 : BitVec 32 := Scalar.remsi v551 v553
  let c0_i32_389 : BitVec 32 := 0#32
  let v556 : BitVec 1 := Scalar.cmpi .slt v554 c0_i32_389
  let c0_i32_390 : BitVec 32 := 0#32
  let v557 : BitVec 1 := Scalar.cmpi .slt v553 c0_i32_390
  let v558 : BitVec 1 := Scalar.xori v556 v557
  let c0_i32_388 : BitVec 32 := 0#32
  let v555 : BitVec 1 := Scalar.cmpi .ne v554 c0_i32_388
  let v559 : BitVec 1 := Scalar.andi v558 v555
  let v560 : BitVec 32 := Scalar.addi v554 v553
  let v561 : BitVec 32 := Scalar.select v559 v560 v554
  let c1024_i32_391 : BitVec 32 := 1024#32
  let v562 : BitVec 32 := Scalar.muli v561 c1024_i32_391
  let v563 : BitVec 32 := Scalar.addi c4096_i32_392 v562
  v563
def k0_dev5 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_397 : BitVec 32 := 1#32
  let v565 : BitVec 32 := Scalar.muli v24 c1_i32_397
  let v566 : BitVec 32 := Scalar.addi c0_i32_398 v565
  v566.toNat
def k0_dev6 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_405 : BitVec 32 := 1#32
  let v574 : BitVec 32 := Scalar.muli v13 c1_i32_405
  let v575 : BitVec 32 := Scalar.addi c0_i32_406 v574
  v575.toNat
def k0_mult21 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v111 : BitVec 32 := Scalar.subi v2 c3_i32
  let c4_i32_68 : BitVec 32 := 4#32
  let c0_i32_69 : BitVec 32 := 0#32
  let v112 : BitVec 1 := Scalar.cmpi .eq c4_i32_68 c0_i32_69
  let c1_i32_70 : BitVec 32 := 1#32
  let v113 : BitVec 32 := Scalar.select v112 c1_i32_70 c4_i32_68
  let v114 : BitVec 32 := Scalar.remsi v111 v113
  let c0_i32_72 : BitVec 32 := 0#32
  let v116 : BitVec 1 := Scalar.cmpi .slt v114 c0_i32_72
  let c0_i32_73 : BitVec 32 := 0#32
  let v117 : BitVec 1 := Scalar.cmpi .slt v113 c0_i32_73
  let v118 : BitVec 1 := Scalar.xori v116 v117
  let c0_i32_71 : BitVec 32 := 0#32
  let v115 : BitVec 1 := Scalar.cmpi .ne v114 c0_i32_71
  let v119 : BitVec 1 := Scalar.andi v118 v115
  let v120 : BitVec 32 := Scalar.addi v114 v113
  let v121 : BitVec 32 := Scalar.select v119 v120 v114
  let c1024_i32_74 : BitVec 32 := 1024#32
  let v122 : BitVec 32 := Scalar.muli v121 c1024_i32_74
  let v123 : BitVec 32 := v122
  let c8_i32_442 : BitVec 32 := 8#32
  let v635 : BitVec 32 := Scalar.subi v123 c8_i32_442
  let c0_i32_443 : BitVec 32 := 0#32
  let v636 : BitVec 32 := Scalar.maxsi v635 c0_i32_443
  v636
def k0_mult22 (d0 : Dev nD) : BitVec 32 :=
  let c4096_i32_83 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v124 : BitVec 32 := Scalar.addi v2 c3_i32_75
  let c4_i32_76 : BitVec 32 := 4#32
  let c0_i32_77 : BitVec 32 := 0#32
  let v125 : BitVec 1 := Scalar.cmpi .eq c4_i32_76 c0_i32_77
  let c1_i32_78 : BitVec 32 := 1#32
  let v126 : BitVec 32 := Scalar.select v125 c1_i32_78 c4_i32_76
  let v127 : BitVec 32 := Scalar.remsi v124 v126
  let c0_i32_80 : BitVec 32 := 0#32
  let v129 : BitVec 1 := Scalar.cmpi .slt v127 c0_i32_80
  let c0_i32_81 : BitVec 32 := 0#32
  let v130 : BitVec 1 := Scalar.cmpi .slt v126 c0_i32_81
  let v131 : BitVec 1 := Scalar.xori v129 v130
  let c0_i32_79 : BitVec 32 := 0#32
  let v128 : BitVec 1 := Scalar.cmpi .ne v127 c0_i32_79
  let v132 : BitVec 1 := Scalar.andi v131 v128
  let v133 : BitVec 32 := Scalar.addi v127 v126
  let v134 : BitVec 32 := Scalar.select v132 v133 v127
  let c1024_i32_82 : BitVec 32 := 1024#32
  let v135 : BitVec 32 := Scalar.muli v134 c1024_i32_82
  let v136 : BitVec 32 := Scalar.addi c4096_i32_83 v135
  let v137 : BitVec 32 := v136
  let c8_i32_486 : BitVec 32 := 8#32
  let v700 : BitVec 32 := Scalar.subi v137 c8_i32_486
  let c0_i32_487 : BitVec 32 := 0#32
  let v701 : BitVec 32 := Scalar.maxsi v700 c0_i32_487
  v701
def k0_mult23 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_515 : BitVec 32 := 1#32
  let v725 : BitVec 32 := Scalar.subi v2 c1_i32_515
  let c1_i32_516 : BitVec 32 := 1#32
  let v726 : BitVec 32 := Scalar.subi v725 c1_i32_516
  let c4_i32_517 : BitVec 32 := 4#32
  let c0_i32_518 : BitVec 32 := 0#32
  let v727 : BitVec 1 := Scalar.cmpi .eq c4_i32_517 c0_i32_518
  let c1_i32_519 : BitVec 32 := 1#32
  let v728 : BitVec 32 := Scalar.select v727 c1_i32_519 c4_i32_517
  let v729 : BitVec 32 := Scalar.remsi v726 v728
  let c0_i32_521 : BitVec 32 := 0#32
  let v731 : BitVec 1 := Scalar.cmpi .slt v729 c0_i32_521
  let c0_i32_522 : BitVec 32 := 0#32
  let v732 : BitVec 1 := Scalar.cmpi .slt v728 c0_i32_522
  let v733 : BitVec 1 := Scalar.xori v731 v732
  let c0_i32_520 : BitVec 32 := 0#32
  let v730 : BitVec 1 := Scalar.cmpi .ne v729 c0_i32_520
  let v734 : BitVec 1 := Scalar.andi v733 v730
  let v735 : BitVec 32 := Scalar.addi v729 v728
  let v736 : BitVec 32 := Scalar.select v734 v735 v729
  let c1024_i32_523 : BitVec 32 := 1024#32
  let v737 : BitVec 32 := Scalar.muli v736 c1024_i32_523
  v737
def k0_mult24 (d0 : Dev nD) : BitVec 32 :=
  let c4096_i32_556 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_547 : BitVec 32 := 1#32
  let v759 : BitVec 32 := Scalar.addi v2 c1_i32_547
  let c1_i32_548 : BitVec 32 := 1#32
  let v760 : BitVec 32 := Scalar.addi v759 c1_i32_548
  let c4_i32_549 : BitVec 32 := 4#32
  let c0_i32_550 : BitVec 32 := 0#32
  let v761 : BitVec 1 := Scalar.cmpi .eq c4_i32_549 c0_i32_550
  let c1_i32_551 : BitVec 32 := 1#32
  let v762 : BitVec 32 := Scalar.select v761 c1_i32_551 c4_i32_549
  let v763 : BitVec 32 := Scalar.remsi v760 v762
  let c0_i32_553 : BitVec 32 := 0#32
  let v765 : BitVec 1 := Scalar.cmpi .slt v763 c0_i32_553
  let c0_i32_554 : BitVec 32 := 0#32
  let v766 : BitVec 1 := Scalar.cmpi .slt v762 c0_i32_554
  let v767 : BitVec 1 := Scalar.xori v765 v766
  let c0_i32_552 : BitVec 32 := 0#32
  let v764 : BitVec 1 := Scalar.cmpi .ne v763 c0_i32_552
  let v768 : BitVec 1 := Scalar.andi v767 v764
  let v769 : BitVec 32 := Scalar.addi v763 v762
  let v770 : BitVec 32 := Scalar.select v768 v769 v763
  let c1024_i32_555 : BitVec 32 := 1024#32
  let v771 : BitVec 32 := Scalar.muli v770 c1024_i32_555
  let v772 : BitVec 32 := Scalar.addi c4096_i32_556 v771
  v772
def k0_mult25 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_563 : BitVec 32 := 2#32
  let v782 : BitVec 32 := Scalar.subi v2 c2_i32_563
  let c4_i32_564 : BitVec 32 := 4#32
  let c0_i32_565 : BitVec 32 := 0#32
  let v783 : BitVec 1 := Scalar.cmpi .eq c4_i32_564 c0_i32_565
  let c1_i32_566 : BitVec 32 := 1#32
  let v784 : BitVec 32 := Scalar.select v783 c1_i32_566 c4_i32_564
  let v785 : BitVec 32 := Scalar.remsi v782 v784
  let c0_i32_568 : BitVec 32 := 0#32
  let v787 : BitVec 1 := Scalar.cmpi .slt v785 c0_i32_568
  let c0_i32_569 : BitVec 32 := 0#32
  let v788 : BitVec 1 := Scalar.cmpi .slt v784 c0_i32_569
  let v789 : BitVec 1 := Scalar.xori v787 v788
  let c0_i32_567 : BitVec 32 := 0#32
  let v786 : BitVec 1 := Scalar.cmpi .ne v785 c0_i32_567
  let v790 : BitVec 1 := Scalar.andi v789 v786
  let v791 : BitVec 32 := Scalar.addi v785 v784
  let v792 : BitVec 32 := Scalar.select v790 v791 v785
  let c1024_i32_570 : BitVec 32 := 1024#32
  let v793 : BitVec 32 := Scalar.muli v792 c1024_i32_570
  v793
def k0_mult26 (d0 : Dev nD) : BitVec 32 :=
  let c4096_i32_579 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_571 : BitVec 32 := 2#32
  let v795 : BitVec 32 := Scalar.addi v2 c2_i32_571
  let c4_i32_572 : BitVec 32 := 4#32
  let c0_i32_573 : BitVec 32 := 0#32
  let v796 : BitVec 1 := Scalar.cmpi .eq c4_i32_572 c0_i32_573
  let c1_i32_574 : BitVec 32 := 1#32
  let v797 : BitVec 32 := Scalar.select v796 c1_i32_574 c4_i32_572
  let v798 : BitVec 32 := Scalar.remsi v795 v797
  let c0_i32_576 : BitVec 32 := 0#32
  let v800 : BitVec 1 := Scalar.cmpi .slt v798 c0_i32_576
  let c0_i32_577 : BitVec 32 := 0#32
  let v801 : BitVec 1 := Scalar.cmpi .slt v797 c0_i32_577
  let v802 : BitVec 1 := Scalar.xori v800 v801
  let c0_i32_575 : BitVec 32 := 0#32
  let v799 : BitVec 1 := Scalar.cmpi .ne v798 c0_i32_575
  let v803 : BitVec 1 := Scalar.andi v802 v799
  let v804 : BitVec 32 := Scalar.addi v798 v797
  let v805 : BitVec 32 := Scalar.select v803 v804 v798
  let c1024_i32_578 : BitVec 32 := 1024#32
  let v806 : BitVec 32 := Scalar.muli v805 c1024_i32_578
  let v807 : BitVec 32 := Scalar.addi c4096_i32_579 v806
  v807
def k0_dev7 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_584 : BitVec 32 := 1#32
  let v809 : BitVec 32 := Scalar.muli v24 c1_i32_584
  let v810 : BitVec 32 := Scalar.addi c0_i32_585 v809
  v810.toNat
def k0_dev8 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_593 : BitVec 32 := 1#32
  let v818 : BitVec 32 := Scalar.muli v13 c1_i32_593
  let v819 : BitVec 32 := Scalar.addi c0_i32_594 v818
  v819.toNat
def k0_mult27 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_679 : BitVec 32 := 2#32
  let v943 : BitVec 32 := Scalar.subi v2 c2_i32_679
  let c1_i32_680 : BitVec 32 := 1#32
  let v944 : BitVec 32 := Scalar.subi v943 c1_i32_680
  let c4_i32_681 : BitVec 32 := 4#32
  let c0_i32_682 : BitVec 32 := 0#32
  let v945 : BitVec 1 := Scalar.cmpi .eq c4_i32_681 c0_i32_682
  let c1_i32_683 : BitVec 32 := 1#32
  let v946 : BitVec 32 := Scalar.select v945 c1_i32_683 c4_i32_681
  let v947 : BitVec 32 := Scalar.remsi v944 v946
  let c0_i32_685 : BitVec 32 := 0#32
  let v949 : BitVec 1 := Scalar.cmpi .slt v947 c0_i32_685
  let c0_i32_686 : BitVec 32 := 0#32
  let v950 : BitVec 1 := Scalar.cmpi .slt v946 c0_i32_686
  let v951 : BitVec 1 := Scalar.xori v949 v950
  let c0_i32_684 : BitVec 32 := 0#32
  let v948 : BitVec 1 := Scalar.cmpi .ne v947 c0_i32_684
  let v952 : BitVec 1 := Scalar.andi v951 v948
  let v953 : BitVec 32 := Scalar.addi v947 v946
  let v954 : BitVec 32 := Scalar.select v952 v953 v947
  let c1024_i32_687 : BitVec 32 := 1024#32
  let v955 : BitVec 32 := Scalar.muli v954 c1024_i32_687
  v955
def k0_mult28 (d0 : Dev nD) : BitVec 32 :=
  let c4096_i32_720 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_711 : BitVec 32 := 2#32
  let v977 : BitVec 32 := Scalar.addi v2 c2_i32_711
  let c1_i32_712 : BitVec 32 := 1#32
  let v978 : BitVec 32 := Scalar.addi v977 c1_i32_712
  let c4_i32_713 : BitVec 32 := 4#32
  let c0_i32_714 : BitVec 32 := 0#32
  let v979 : BitVec 1 := Scalar.cmpi .eq c4_i32_713 c0_i32_714
  let c1_i32_715 : BitVec 32 := 1#32
  let v980 : BitVec 32 := Scalar.select v979 c1_i32_715 c4_i32_713
  let v981 : BitVec 32 := Scalar.remsi v978 v980
  let c0_i32_717 : BitVec 32 := 0#32
  let v983 : BitVec 1 := Scalar.cmpi .slt v981 c0_i32_717
  let c0_i32_718 : BitVec 32 := 0#32
  let v984 : BitVec 1 := Scalar.cmpi .slt v980 c0_i32_718
  let v985 : BitVec 1 := Scalar.xori v983 v984
  let c0_i32_716 : BitVec 32 := 0#32
  let v982 : BitVec 1 := Scalar.cmpi .ne v981 c0_i32_716
  let v986 : BitVec 1 := Scalar.andi v985 v982
  let v987 : BitVec 32 := Scalar.addi v981 v980
  let v988 : BitVec 32 := Scalar.select v986 v987 v981
  let c1024_i32_719 : BitVec 32 := 1024#32
  let v989 : BitVec 32 := Scalar.muli v988 c1024_i32_719
  let v990 : BitVec 32 := Scalar.addi c4096_i32_720 v989
  v990
def k0_mult29 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_727 : BitVec 32 := 1#32
  let v1000 : BitVec 32 := Scalar.addi v2 c1_i32_727
  let c0_i32_728 : BitVec 32 := 0#32
  let v1001 : BitVec 32 := Scalar.subi v1000 c0_i32_728
  let c4_i32_729 : BitVec 32 := 4#32
  let c0_i32_730 : BitVec 32 := 0#32
  let v1002 : BitVec 1 := Scalar.cmpi .eq c4_i32_729 c0_i32_730
  let c1_i32_731 : BitVec 32 := 1#32
  let v1003 : BitVec 32 := Scalar.select v1002 c1_i32_731 c4_i32_729
  let v1004 : BitVec 32 := Scalar.remsi v1001 v1003
  let c0_i32_733 : BitVec 32 := 0#32
  let v1006 : BitVec 1 := Scalar.cmpi .slt v1004 c0_i32_733
  let c0_i32_734 : BitVec 32 := 0#32
  let v1007 : BitVec 1 := Scalar.cmpi .slt v1003 c0_i32_734
  let v1008 : BitVec 1 := Scalar.xori v1006 v1007
  let c0_i32_732 : BitVec 32 := 0#32
  let v1005 : BitVec 1 := Scalar.cmpi .ne v1004 c0_i32_732
  let v1009 : BitVec 1 := Scalar.andi v1008 v1005
  let v1010 : BitVec 32 := Scalar.addi v1004 v1003
  let v1011 : BitVec 32 := Scalar.select v1009 v1010 v1004
  let c1024_i32_735 : BitVec 32 := 1024#32
  let v1012 : BitVec 32 := Scalar.muli v1011 c1024_i32_735
  v1012
def k0_mult30 (d0 : Dev nD) : BitVec 32 :=
  let c4096_i32_745 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_736 : BitVec 32 := 1#32
  let v1014 : BitVec 32 := Scalar.subi v2 c1_i32_736
  let c0_i32_737 : BitVec 32 := 0#32
  let v1015 : BitVec 32 := Scalar.addi v1014 c0_i32_737
  let c4_i32_738 : BitVec 32 := 4#32
  let c0_i32_739 : BitVec 32 := 0#32
  let v1016 : BitVec 1 := Scalar.cmpi .eq c4_i32_738 c0_i32_739
  let c1_i32_740 : BitVec 32 := 1#32
  let v1017 : BitVec 32 := Scalar.select v1016 c1_i32_740 c4_i32_738
  let v1018 : BitVec 32 := Scalar.remsi v1015 v1017
  let c0_i32_742 : BitVec 32 := 0#32
  let v1020 : BitVec 1 := Scalar.cmpi .slt v1018 c0_i32_742
  let c0_i32_743 : BitVec 32 := 0#32
  let v1021 : BitVec 1 := Scalar.cmpi .slt v1017 c0_i32_743
  let v1022 : BitVec 1 := Scalar.xori v1020 v1021
  let c0_i32_741 : BitVec 32 := 0#32
  let v1019 : BitVec 1 := Scalar.cmpi .ne v1018 c0_i32_741
  let v1023 : BitVec 1 := Scalar.andi v1022 v1019
  let v1024 : BitVec 32 := Scalar.addi v1018 v1017
  let v1025 : BitVec 32 := Scalar.select v1023 v1024 v1018
  let c1024_i32_744 : BitVec 32 := 1024#32
  let v1026 : BitVec 32 := Scalar.muli v1025 c1024_i32_744
  let v1027 : BitVec 32 := Scalar.addi c4096_i32_745 v1026
  v1027
def k0_off9 (d0 : Dev nD) (c0_i32_728 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_727 : BitVec 32 := 1#32
  let v1000 : BitVec 32 := Scalar.addi v2 c1_i32_727
  let v1001 : BitVec 32 := Scalar.subi v1000 c0_i32_728
  let c4_i32_729 : BitVec 32 := 4#32
  let c0_i32_730 : BitVec 32 := 0#32
  let v1002 : BitVec 1 := Scalar.cmpi .eq c4_i32_729 c0_i32_730
  let c1_i32_731 : BitVec 32 := 1#32
  let v1003 : BitVec 32 := Scalar.select v1002 c1_i32_731 c4_i32_729
  let v1004 : BitVec 32 := Scalar.remsi v1001 v1003
  let c0_i32_733 : BitVec 32 := 0#32
  let v1006 : BitVec 1 := Scalar.cmpi .slt v1004 c0_i32_733
  let c0_i32_734 : BitVec 32 := 0#32
  let v1007 : BitVec 1 := Scalar.cmpi .slt v1003 c0_i32_734
  let v1008 : BitVec 1 := Scalar.xori v1006 v1007
  let c0_i32_732 : BitVec 32 := 0#32
  let v1005 : BitVec 1 := Scalar.cmpi .ne v1004 c0_i32_732
  let v1009 : BitVec 1 := Scalar.andi v1008 v1005
  let v1010 : BitVec 32 := Scalar.addi v1004 v1003
  let v1011 : BitVec 32 := Scalar.select v1009 v1010 v1004
  let c1024_i32_735 : BitVec 32 := 1024#32
  let v1012 : BitVec 32 := Scalar.muli v1011 c1024_i32_735
  let v1013 : BitVec 32 := v1012
  let c0_i32_750 : BitVec 32 := 0#32
  ![v1013.toNat, 0]
def k0_dev9 (d0 : Dev nD) : Nat :=
  let c0_i32_749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_748 : BitVec 32 := 1#32
  let v1029 : BitVec 32 := Scalar.muli v24 c1_i32_748
  let v1030 : BitVec 32 := Scalar.addi c0_i32_749 v1029
  v1030.toNat
def k0_off10 (d0 : Dev nD) (c0_i32_737 : BitVec 32) : Fin 2 → Nat :=
  let c4096_i32_745 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_736 : BitVec 32 := 1#32
  let v1014 : BitVec 32 := Scalar.subi v2 c1_i32_736
  let v1015 : BitVec 32 := Scalar.addi v1014 c0_i32_737
  let c4_i32_738 : BitVec 32 := 4#32
  let c0_i32_739 : BitVec 32 := 0#32
  let v1016 : BitVec 1 := Scalar.cmpi .eq c4_i32_738 c0_i32_739
  let c1_i32_740 : BitVec 32 := 1#32
  let v1017 : BitVec 32 := Scalar.select v1016 c1_i32_740 c4_i32_738
  let v1018 : BitVec 32 := Scalar.remsi v1015 v1017
  let c0_i32_742 : BitVec 32 := 0#32
  let v1020 : BitVec 1 := Scalar.cmpi .slt v1018 c0_i32_742
  let c0_i32_743 : BitVec 32 := 0#32
  let v1021 : BitVec 1 := Scalar.cmpi .slt v1017 c0_i32_743
  let v1022 : BitVec 1 := Scalar.xori v1020 v1021
  let c0_i32_741 : BitVec 32 := 0#32
  let v1019 : BitVec 1 := Scalar.cmpi .ne v1018 c0_i32_741
  let v1023 : BitVec 1 := Scalar.andi v1022 v1019
  let v1024 : BitVec 32 := Scalar.addi v1018 v1017
  let v1025 : BitVec 32 := Scalar.select v1023 v1024 v1018
  let c1024_i32_744 : BitVec 32 := 1024#32
  let v1026 : BitVec 32 := Scalar.muli v1025 c1024_i32_744
  let v1027 : BitVec 32 := Scalar.addi c4096_i32_745 v1026
  let v1028 : BitVec 32 := v1027
  let c0_i32_755 : BitVec 32 := 0#32
  ![v1028.toNat, 0]
def k0_dev10 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_753 : BitVec 32 := 1#32
  let v1037 : BitVec 32 := Scalar.muli v13 c1_i32_753
  let v1038 : BitVec 32 := Scalar.addi c0_i32_754 v1037
  v1038.toNat
def k0_mult31 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_779 : BitVec 32 := 1#32
  let v1065 : BitVec 32 := Scalar.addi v2 c1_i32_779
  let c1_i32_780 : BitVec 32 := 1#32
  let v1066 : BitVec 32 := Scalar.subi v1065 c1_i32_780
  let c4_i32_781 : BitVec 32 := 4#32
  let c0_i32_782 : BitVec 32 := 0#32
  let v1067 : BitVec 1 := Scalar.cmpi .eq c4_i32_781 c0_i32_782
  let c1_i32_783 : BitVec 32 := 1#32
  let v1068 : BitVec 32 := Scalar.select v1067 c1_i32_783 c4_i32_781
  let v1069 : BitVec 32 := Scalar.remsi v1066 v1068
  let c0_i32_785 : BitVec 32 := 0#32
  let v1071 : BitVec 1 := Scalar.cmpi .slt v1069 c0_i32_785
  let c0_i32_786 : BitVec 32 := 0#32
  let v1072 : BitVec 1 := Scalar.cmpi .slt v1068 c0_i32_786
  let v1073 : BitVec 1 := Scalar.xori v1071 v1072
  let c0_i32_784 : BitVec 32 := 0#32
  let v1070 : BitVec 1 := Scalar.cmpi .ne v1069 c0_i32_784
  let v1074 : BitVec 1 := Scalar.andi v1073 v1070
  let v1075 : BitVec 32 := Scalar.addi v1069 v1068
  let v1076 : BitVec 32 := Scalar.select v1074 v1075 v1069
  let c1024_i32_787 : BitVec 32 := 1024#32
  let v1077 : BitVec 32 := Scalar.muli v1076 c1024_i32_787
  v1077
def k0_mult32 (d0 : Dev nD) : BitVec 32 :=
  let c4096_i32_797 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_788 : BitVec 32 := 1#32
  let v1079 : BitVec 32 := Scalar.subi v2 c1_i32_788
  let c1_i32_789 : BitVec 32 := 1#32
  let v1080 : BitVec 32 := Scalar.addi v1079 c1_i32_789
  let c4_i32_790 : BitVec 32 := 4#32
  let c0_i32_791 : BitVec 32 := 0#32
  let v1081 : BitVec 1 := Scalar.cmpi .eq c4_i32_790 c0_i32_791
  let c1_i32_792 : BitVec 32 := 1#32
  let v1082 : BitVec 32 := Scalar.select v1081 c1_i32_792 c4_i32_790
  let v1083 : BitVec 32 := Scalar.remsi v1080 v1082
  let c0_i32_794 : BitVec 32 := 0#32
  let v1085 : BitVec 1 := Scalar.cmpi .slt v1083 c0_i32_794
  let c0_i32_795 : BitVec 32 := 0#32
  let v1086 : BitVec 1 := Scalar.cmpi .slt v1082 c0_i32_795
  let v1087 : BitVec 1 := Scalar.xori v1085 v1086
  let c0_i32_793 : BitVec 32 := 0#32
  let v1084 : BitVec 1 := Scalar.cmpi .ne v1083 c0_i32_793
  let v1088 : BitVec 1 := Scalar.andi v1087 v1084
  let v1089 : BitVec 32 := Scalar.addi v1083 v1082
  let v1090 : BitVec 32 := Scalar.select v1088 v1089 v1083
  let c1024_i32_796 : BitVec 32 := 1024#32
  let v1091 : BitVec 32 := Scalar.muli v1090 c1024_i32_796
  let v1092 : BitVec 32 := Scalar.addi c4096_i32_797 v1091
  v1092
def k0_dev11 (d0 : Dev nD) : Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_800 : BitVec 32 := 1#32
  let v1094 : BitVec 32 := Scalar.muli v24 c1_i32_800
  let v1095 : BitVec 32 := Scalar.addi c0_i32_801 v1094
  v1095.toNat
def k0_dev12 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_805 : BitVec 32 := 1#32
  let v1102 : BitVec 32 := Scalar.muli v13 c1_i32_805
  let v1103 : BitVec 32 := Scalar.addi c0_i32_806 v1102
  v1103.toNat
def k0_mult33 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_831 : BitVec 32 := 1#32
  let v1130 : BitVec 32 := Scalar.addi v2 c1_i32_831
  let c2_i32_832 : BitVec 32 := 2#32
  let v1131 : BitVec 32 := Scalar.subi v1130 c2_i32_832
  let c4_i32_833 : BitVec 32 := 4#32
  let c0_i32_834 : BitVec 32 := 0#32
  let v1132 : BitVec 1 := Scalar.cmpi .eq c4_i32_833 c0_i32_834
  let c1_i32_835 : BitVec 32 := 1#32
  let v1133 : BitVec 32 := Scalar.select v1132 c1_i32_835 c4_i32_833
  let v1134 : BitVec 32 := Scalar.remsi v1131 v1133
  let c0_i32_837 : BitVec 32 := 0#32
  let v1136 : BitVec 1 := Scalar.cmpi .slt v1134 c0_i32_837
  let c0_i32_838 : BitVec 32 := 0#32
  let v1137 : BitVec 1 := Scalar.cmpi .slt v1133 c0_i32_838
  let v1138 : BitVec 1 := Scalar.xori v1136 v1137
  let c0_i32_836 : BitVec 32 := 0#32
  let v1135 : BitVec 1 := Scalar.cmpi .ne v1134 c0_i32_836
  let v1139 : BitVec 1 := Scalar.andi v1138 v1135
  let v1140 : BitVec 32 := Scalar.addi v1134 v1133
  let v1141 : BitVec 32 := Scalar.select v1139 v1140 v1134
  let c1024_i32_839 : BitVec 32 := 1024#32
  let v1142 : BitVec 32 := Scalar.muli v1141 c1024_i32_839
  v1142
def k0_mult34 (d0 : Dev nD) : BitVec 32 :=
  let c4096_i32_849 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_840 : BitVec 32 := 1#32
  let v1144 : BitVec 32 := Scalar.subi v2 c1_i32_840
  let c2_i32_841 : BitVec 32 := 2#32
  let v1145 : BitVec 32 := Scalar.addi v1144 c2_i32_841
  let c4_i32_842 : BitVec 32 := 4#32
  let c0_i32_843 : BitVec 32 := 0#32
  let v1146 : BitVec 1 := Scalar.cmpi .eq c4_i32_842 c0_i32_843
  let c1_i32_844 : BitVec 32 := 1#32
  let v1147 : BitVec 32 := Scalar.select v1146 c1_i32_844 c4_i32_842
  let v1148 : BitVec 32 := Scalar.remsi v1145 v1147
  let c0_i32_846 : BitVec 32 := 0#32
  let v1150 : BitVec 1 := Scalar.cmpi .slt v1148 c0_i32_846
  let c0_i32_847 : BitVec 32 := 0#32
  let v1151 : BitVec 1 := Scalar.cmpi .slt v1147 c0_i32_847
  let v1152 : BitVec 1 := Scalar.xori v1150 v1151
  let c0_i32_845 : BitVec 32 := 0#32
  let v1149 : BitVec 1 := Scalar.cmpi .ne v1148 c0_i32_845
  let v1153 : BitVec 1 := Scalar.andi v1152 v1149
  let v1154 : BitVec 32 := Scalar.addi v1148 v1147
  let v1155 : BitVec 32 := Scalar.select v1153 v1154 v1148
  let c1024_i32_848 : BitVec 32 := 1024#32
  let v1156 : BitVec 32 := Scalar.muli v1155 c1024_i32_848
  let v1157 : BitVec 32 := Scalar.addi c4096_i32_849 v1156
  v1157
def k0_dev13 (d0 : Dev nD) : Nat :=
  let c0_i32_853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_852 : BitVec 32 := 1#32
  let v1159 : BitVec 32 := Scalar.muli v24 c1_i32_852
  let v1160 : BitVec 32 := Scalar.addi c0_i32_853 v1159
  v1160.toNat
def k0_dev14 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_857 : BitVec 32 := 1#32
  let v1167 : BitVec 32 := Scalar.muli v13 c1_i32_857
  let v1168 : BitVec 32 := Scalar.addi c0_i32_858 v1167
  v1168.toNat
abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x4096 : Shape := ⟨3, ![2, 4096, 4096]⟩
abbrev S4x4096 : Shape := ⟨2, ![4, 4096]⟩
abbrev S4096x1024 : Shape := ⟨2, ![4096, 1024]⟩
abbrev S_ : Shape := ⟨0, ![]⟩
abbrev S2x3x4096 : Shape := ⟨3, ![2, 3, 4096]⟩
abbrev S2x4099x4096 : Shape := ⟨3, ![2, 4099, 4096]⟩
abbrev S1x4096 : Shape := ⟨2, ![1, 4096]⟩
abbrev S4096 : Shape := ⟨1, ![4096]⟩
abbrev S1x1x4096 : Shape := ⟨3, ![1, 1, 4096]⟩
abbrev S2x4096x1024 : Shape := ⟨3, ![2, 4096, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4x4096, .f32⟩
  | .hbm, ⟨2, _⟩ => ⟨S4096x1024, .f32⟩
  | .hbm, ⟨3, _⟩ => ⟨S_, .f32⟩
  | .hbm, ⟨4, _⟩ => ⟨S2x3x4096, .f32⟩
  | .hbm, ⟨5, _⟩ => ⟨S2x4099x4096, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S2x4096x4096, .f32⟩
  | .hbm, ⟨38, _⟩ => ⟨S_, .f32⟩
  | .hbm, ⟨39, _⟩ => ⟨S2x4096x4096, .f32⟩
  | .hbm, ⟨40, _⟩ => ⟨S2x4096x4096, .f32⟩
  | .hbm, ⟨41, _⟩ => ⟨S2x4096x4096, .f32⟩
  | .hbm, ⟨42, _⟩ => ⟨S2x4096x1024, .f32⟩
  | .hbm, ⟨43, _⟩ => ⟨S2x4096x1024, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Ring.lean ====
/-
The ring of four devices and its geometry: who is whose neighbour, which rows of the
output each step of a device touches, and the memrefs, semaphores and cells by name.

A device `c` walks the first half of the rows backwards (`chunkA c 0`, `chunkA c 1`, …)
and the second half forwards (`chunkB c 0`, …). There are twelve transfers per device,
numbered as the kernel's semaphore arrays number them: `0, 1, 2` pass partial sums of the
first half to the right neighbour, `3, 4, 5` its finished chunks; `6, 7, 8` and `9, 10, 11`
do the same for the second half to the left.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Conv

open Cert.KernelIdeal Cert.KernelIdeal.Gen
open Idealize.ShloMosaic
open Idealize.ShloMosaic.TcCoe

/-! ## Neighbours -/

/-- The device `h` steps to the left of `c`, counted round the ring. -/
def back (c : Dev nD) (h : ℕ) : Dev nD := ⟨(c.val + 3 * h) % 4, Nat.mod_lt _ (by decide)⟩
/-- The device `h` steps to the right of `c`. -/
def fwd (c : Dev nD) (h : ℕ) : Dev nD := ⟨(c.val + h) % 4, Nat.mod_lt _ (by decide)⟩
abbrev prv (c : Dev nD) : Dev nD := back c 1
abbrev nxt (c : Dev nD) : Dev nD := fwd c 1

theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

/-- The device each signal and each transfer names. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel

/-! ## Chunks of 1024 rows -/

/-- The chunk of the first half that device `c` reaches after `h` steps backwards. -/
def chunkA (c : Dev nD) (h : ℕ) : Fin 8 := ⟨(c.val + 3 * h) % 4, by omega⟩
/-- The chunk of the second half that device `c` reaches after `h` steps forwards. -/
def chunkB (c : Dev nD) (h : ℕ) : Fin 8 := ⟨4 + (c.val + h) % 4, by omega⟩

/-- Where chunk `r` begins. -/
def chunkOff (r : Fin 8) : Fin 2 → ℕ := ![1024 * r.val, 0]
/-- Where the eight rows before chunk `r` begin (the first eight rows of all, for the first chunk). -/
def haloOff (r : Fin 8) : Fin 2 → ℕ := ![1024 * r.val - 8, 0]

theorem chunkOff_inb (r : Fin 8) : ∀ a, chunkOff r a + S1024x1024.size a ≤ S8192x1024.size a := by revert r; decide
theorem haloOff_inb (r : Fin 8) : ∀ a, haloOff r a + S8x1024.size a ≤ S8192x1024.size a := by revert r; decide

theorem off1_eq (c : Dev nD) (r : Fin 4) : k0_off1 c (BitVec.ofNat 32 r.val) = chunkOff (chunkA c r.val) := by revert c r; decide +kernel
theorem off2_eq (c : Dev nD) (r : Fin 4) : k0_off2 c (BitVec.ofNat 32 r.val) = haloOff (chunkA c r.val) := by revert c r; decide +kernel
theorem off3_eq (c : Dev nD) (r : Fin 4) : k0_off3 c (BitVec.ofNat 32 r.val) = chunkOff (chunkB c r.val) := by revert c r; decide +kernel
theorem off4_eq (c : Dev nD) (r : Fin 4) : k0_off4 c (BitVec.ofNat 32 r.val) = haloOff (chunkB c r.val) := by revert c r; decide +kernel
theorem off5_eq (c : Dev nD) (r : Fin 4) : k0_off5 c (BitVec.ofNat 32 r.val) = chunkOff (chunkA c r.val) := by revert c r; decide +kernel
theorem off6_eq (c : Dev nD) (r : Fin 4) : k0_off6 c (BitVec.ofNat 32 r.val) = chunkOff (chunkB c r.val) := by revert c r; decide +kernel
theorem off7_eq (c : Dev nD) (r : Fin 3) : k0_off7 c (BitVec.ofNat 32 r.val) = chunkOff (chunkA c (r.val + 1)) := by revert c r; decide +kernel
theorem off8_eq (c : Dev nD) (r : Fin 3) : k0_off8 c (BitVec.ofNat 32 r.val) = chunkOff (chunkB c (r.val + 1)) := by revert c r; decide +kernel
theorem off9_eq (c : Dev nD) (r : Fin 3) : k0_off9 c (BitVec.ofNat 32 r.val) = chunkOff (chunkA c (r.val + 3)) := by revert c r; decide +kernel
theorem off10_eq (c : Dev nD) (r : Fin 3) : k0_off10 c (BitVec.ofNat 32 r.val) = chunkOff (chunkB c (r.val + 3)) := by revert c r; decide +kernel

/-! ## Memrefs -/

abbrev xM : Memref sig .tc .hbm S8192x1024 .f32 := Memref.whole main_v1
abbrev kM : Memref sig .tc .vmem S4x1024 .f32 := Memref.whole cc0_stg0_0
abbrev wM : Memref sig .tc .vmem S1024x1024 .bf16 := Memref.whole cc0_stg1_0
abbrev oM : Memref sig .tc .vmem S8192x1024 .bf16 := Memref.whole cc0_stg2_0
abbrev xbM : Memref sig .tc .vmem S2x1024x1024 .f32 := Memref.whole cc0_scratch0
abbrev hbM : Memref sig .tc .vmem S2x8x1024 .f32 := Memref.whole cc0_scratch1
abbrev cbM : Memref sig .tc .vmem S2x2x1024x1024 .bf16 := Memref.whole cc0_scratch2

/-- The rows of chunk `r`, and the eight before it. -/
abbrev chunkR (r : Fin 8) : Rect S8192x1024 := Rect.unit (s := S8192x1024) (chunkOff r) S1024x1024.size (chunkOff_inb r)
abbrev haloR (r : Fin 8) : Rect S8192x1024 := Rect.unit (s := S8192x1024) (haloOff r) S8x1024.size (haloOff_inb r)
/-- Chunk `r` of the output, of the input, and the input's eight rows before it. -/
abbrev outC (r : Fin 8) : Memref sig .tc .vmem S1024x1024 .bf16 := oM.slice (chunkR r) (fun _ => rfl)
abbrev inC (r : Fin 8) : Memref sig .tc .hbm S1024x1024 .f32 := xM.slice (chunkR r) (fun _ => rfl)
abbrev inH (r : Fin 8) : Memref sig .tc .hbm S8x1024 .f32 := xM.slice (haloR r) (fun _ => rfl)

def slotOff (s : Fin 2) : Fin 3 → ℕ := ![s.val, 0, 0]
theorem slotOff_inbX (s : Fin 2) : ∀ a, slotOff s a + S1x1024x1024.size a ≤ S2x1024x1024.size a := by revert s; decide
theorem slotOff_inbH (s : Fin 2) : ∀ a, slotOff s a + S1x8x1024.size a ≤ S2x8x1024.size a := by revert s; decide
def commOff (d s : Fin 2) : Fin 4 → ℕ := ![d.val, s.val, 0, 0]
theorem commOff_inb (d s : Fin 2) : ∀ a, commOff d s a + S1x1x1024x1024.size a ≤ S2x2x1024x1024.size a := by revert d s; decide

abbrev xSlotR (s : Fin 2) : Rect S2x1024x1024 := Rect.unit (s := S2x1024x1024) (slotOff s) S1x1024x1024.size (slotOff_inbX s)
abbrev hSlotR (s : Fin 2) : Rect S2x8x1024 := Rect.unit (s := S2x8x1024) (slotOff s) S1x8x1024.size (slotOff_inbH s)
abbrev commR (d s : Fin 2) : Rect S2x2x1024x1024 := Rect.unit (s := S2x2x1024x1024) (commOff d s) S1x1x1024x1024.size (commOff_inb d s)
/-- The two buffers of input rows, the two of the rows before them, and the four landing buffers:
    direction `d` (`0`: from the left), parity `s`. -/
abbrev xSlot (s : Fin 2) : Memref sig .tc .vmem S1024x1024 .f32 := (xbM.slice (xSlotR s) (fun _ => rfl)).squeeze S1024x1024 squeezes_S1x1024x1024_S1024x1024
abbrev hSlot (s : Fin 2) : Memref sig .tc .vmem S8x1024 .f32 := (hbM.slice (hSlotR s) (fun _ => rfl)).squeeze S8x1024 squeezes_S1x8x1024_S8x1024
abbrev commC (d s : Fin 2) : Memref sig .tc .vmem S1024x1024 .bf16 := (cbM.slice (commR d s) (fun _ => rfl)).squeeze S1024x1024 squeezes_S1x1x1024x1024_S1024x1024

/-! ## Semaphores and cells -/

abbrev barS : Sem sig := (SemArray.scalar (sig.barrier 0 rfl) : Sems sig S_).sem
abbrev xS (i : Fin 8) : DmaSem sig := ⟨3 + i.val, by have := i.isLt; show 3 + i.val < 43; omega⟩
abbrev hS (i : Fin 8) : DmaSem sig := ⟨11 + i.val, by have := i.isLt; show 11 + i.val < 43; omega⟩
abbrev sS (j : Fin 12) : DmaSem sig := ⟨19 + j.val, by have := j.isLt; show 19 + j.val < 43; omega⟩
abbrev rS (j : Fin 12) : DmaSem sig := ⟨31 + j.val, by have := j.isLt; show 31 + j.val < 43; omega⟩

theorem x_sem0 : ((cc0_scratch3.slice (Rect.unit (s := S8) ![0] S1.size inb_S8_S1_0)).squeeze S_ squeezes_S1_S_).sem = xS 0 := rfl

abbrev barCell (c : Dev nD) : GSem nD τ sig := ((c : Thread nD τ), .reg barS)
abbrev xCell (c : Dev nD) (i : Fin 8) : GSem nD τ sig := ((c : Thread nD τ), .dma (xS i))
abbrev hCell (c : Dev nD) (i : Fin 8) : GSem nD τ sig := ((c : Thread nD τ), .dma (hS i))
abbrev sCell (c : Dev nD) (j : Fin 12) : GSem nD τ sig := ((c : Thread nD τ), .dma (sS j))
abbrev rCell (c : Dev nD) (j : Fin 12) : GSem nD τ sig := ((c : Thread nD τ), .dma (rS j))

/-- The credit of a chunk's transfer, of an input chunk's copy, of an eight-row copy. -/
abbrev NC : ℕ := (outC 0).view.dmaCredit
abbrev NX : ℕ := (xSlot 0).view.dmaCredit
abbrev NH : ℕ := (hSlot 0).view.dmaCredit
theorem NC_pos : 0 < NC := View.dmaCredit_pos _ (by decide)
theorem NX_pos : 0 < NX := View.dmaCredit_pos _ (by decide)
theorem NH_pos : 0 < NH := View.dmaCredit_pos _ (by decide)
theorem out_credit (r : Fin 8) : (outC r).view.dmaCredit = NC := rfl
theorem comm_credit (d s : Fin 2) : (commC d s).view.dmaCredit = NC := rfl
theorem x_credit (s : Fin 2) : (xSlot s).view.dmaCredit = NX := rfl
theorem h_credit (s : Fin 2) : (hSlot s).view.dmaCredit = NH := rfl

/-! ## The twelve transfers and the eight fetches -/

/-- Where transfer `j` of device `c` goes, and where the one landing on `c` comes from. -/
def tgt (c : Dev nD) (j : Fin 12) : Dev nD := if j.val < 6 then nxt c else prv c
def frm (c : Dev nD) (j : Fin 12) : Dev nD := if j.val < 6 then prv c else nxt c
theorem tgt_frm (c : Dev nD) (j : Fin 12) : tgt (frm c j) j = c := by revert c j; decide
theorem frm_tgt (c : Dev nD) (j : Fin 12) : frm (tgt c j) j = c := by revert c j; decide

/-- The chunk transfer `j` of device `c` reads. -/
def srcC (c : Dev nD) (j : Fin 12) : Fin 8 := if j.val < 6 then chunkA c j.val else chunkB c (j.val - 6)
/-- Where transfer `j` lands on device `d`: a landing buffer for a partial sum, the chunk itself for a finished one. -/
def landM (d : Dev nD) (j : Fin 12) : Memref sig .tc .vmem S1024x1024 .bf16 :=
  if j.val < 3 then commC 0 ⟨j.val % 2, Nat.mod_lt _ (by decide)⟩
  else if j.val < 6 then outC (chunkA d (j.val - 3))
  else if j.val < 9 then commC 1 ⟨j.val % 2, Nat.mod_lt _ (by decide)⟩
  else outC (chunkB d (j.val - 9))

theorem landM_credit (d : Dev nD) (j : Fin 12) : (landM d j).view.dmaCredit = NC := by
  unfold landM; (repeat' split) <;> rfl

/-- The chunk that fetch `i` of device `c` reads: the two halves by turns. -/
def fetC (c : Dev nD) (i : Fin 8) : Fin 8 := if i.val % 2 = 0 then chunkA c (i.val / 2) else chunkB c (i.val / 2)
/-- The buffer it goes to. -/
def par (i : Fin 8) : Fin 2 := ⟨i.val % 2, Nat.mod_lt _ (by decide)⟩

end Cert.Conv

end
-- ==== Proof.Values.lean ====
/-
What the kernel computes, over any float values: one device's contribution to a chunk of
the output, the partial sums that travel round the ring, and what each transfer carries.
-/
module

public import proofs.«01_k».proof.Proof.Ring

@[expose] public section

noncomputable section

namespace Cert.Conv

open Cert.KernelIdeal Cert.KernelIdeal.Gen
open Idealize.ShloMosaic
open Idealize.ShloMosaic.TcCoe

variable {F : FTy → Type} [FloatOps F]

/-- The row a chunk starts at, as the machine word the kernel holds. -/
def rowWord (r : Fin 8) : BitVec 32 := BitVec.ofNat 32 (1024 * r.val)

/-- The three rows before a chunk that begins at row `w`: the last three of the eight read, or zeros where a batch begins. -/
def lead (w : BitVec 32) (H : FVec F S8x1024 .f32) : FVec F S3x1024 .f32 :=
  Scalar.select (Scalar.cmpi .eq (Scalar.remsi w 4096#32) 0#32) (broadcast S3x1024 (Scalar.ofBits .f32 0x00000000#32))
    (extractStridedSlice S3x1024 ![5, 0] H slices_S8x1024_o5_0_S3x1024)

/-- These three rows and the chunk after them. -/
def window (w : BitVec 32) (X : FVec F S1024x1024 .f32) (H : FVec F S8x1024 .f32) : FVec F S1027x1024 .f32 :=
  concatenate S1027x1024 0 [⟨S3x1024, lead w H⟩, ⟨S1024x1024, X⟩] concatenates_S3x1024_S1024x1024_S1027x1024_d0

/-- One row of taps, repeated over all rows of a chunk. -/
def tap (k : Vec F S1x1024 .f32) : FVec F S1024x1024 .f32 :=
  broadcastTo S1024x1024 (shapeCast S1x1024 k shapeCasts_S1x1024_S1x1024) broadcasts_S1x1024_S1024x1024

/-- The four-tap convolution of the chunk, its terms added in the kernel's order. -/
def convOf (x : FVec F S1027x1024 .f32) (k3 k0 k1 k2 : Vec F S1x1024 .f32) : FVec F S1024x1024 .f32 :=
  addf (addf (addf
    (mulf (extractStridedSlice S1024x1024 ![3, 0] x slices_S1027x1024_o3_0_S1024x1024) (tap k3))
    (mulf (extractStridedSlice S1024x1024 ![0, 0] x slices_S1027x1024_o0_0_S1024x1024) (tap k0)))
    (mulf (extractStridedSlice S1024x1024 ![1, 0] x slices_S1027x1024_o1_0_S1024x1024) (tap k1)))
    (mulf (extractStridedSlice S1024x1024 ![2, 0] x slices_S1027x1024_o2_0_S1024x1024) (tap k2))

/-- One device's contribution to a chunk: convolution, activation, product with its rows of the weight. -/
def partialOf (w : BitVec 32) (X : FVec F S1024x1024 .f32) (H : FVec F S8x1024 .f32) (k3 k0 k1 k2 : Vec F S1x1024 .f32)
    (W : Vec F S1024x1024 .bf16) : FVec F S1024x1024 .bf16 :=
  truncf .bf16 (matmul dot_S1024x1024_S1024x1024_S1024x1024_1_0_0_1_n_n none
    (truncf .bf16 (mulf (convOf (window w X H) k3 k0 k1 k2) (logistic (convOf (window w X H) k3 k0 k1 k2))) bitsLt_bf16_f32)
    (shapeCast S1024x1024 W shapeCasts_S1024x1024_S1024x1024)
    (constant S1024x1024 .f32 0x00000000#32)) bitsLt_bf16_f32

/-- A chunk added to the partial sum that has landed. -/
def acc (o l : FVec F S1024x1024 .bf16) : FVec F S1024x1024 .bf16 :=
  addf (shapeCast S1024x1024 o shapeCasts_S1024x1024_S1024x1024) l

variable (F) in
/-- What the kernel reads on each device: its rows of the input, its taps, its rows of the weight. -/
structure Vals where
  x : Dev nD → (main_v1 : Ref sig .tc).ty.Contents (Elt F)
  k : Dev nD → (cc0_stg0_0 : Ref sig .tc).ty.Contents (Elt F)
  w : Dev nD → (cc0_stg1_0 : Ref sig .tc).ty.Contents (Elt F)

variable (v : Vals F)

/-- The row of taps `t`, as the kernel loads it. -/
abbrev tapR (t : Fin 2 → ℕ) (h : ∀ a, t a + S1x1024.size a ≤ S4x1024.size a) : Rect S4x1024 := Rect.unit (s := S4x1024) t S1x1024.size h
abbrev allR : Rect S1024x1024 := Rect.unit (s := S1024x1024) ![0, 0] S1024x1024.size inb_S1024x1024_S1024x1024_0_0

/-- Device `c`'s contribution to chunk `r`. -/
def part (c : Dev nD) (r : Fin 8) : FVec F S1024x1024 .bf16 :=
  partialOf (rowWord r) ((inC r).view.read (Elt F) (v.x c)) ((inH r).view.read (Elt F) (v.x c))
    (kM.view.readAt (Elt F) (tapR ![3, 0] inb_S4x1024_S1x1024_3_0).toLoadRect (v.k c))
    (kM.view.readAt (Elt F) (tapR ![0, 0] inb_S4x1024_S1x1024_0_0).toLoadRect (v.k c))
    (kM.view.readAt (Elt F) (tapR ![1, 0] inb_S4x1024_S1x1024_1_0).toLoadRect (v.k c))
    (kM.view.readAt (Elt F) (tapR ![2, 0] inb_S4x1024_S1x1024_2_0).toLoadRect (v.k c))
    (wM.view.readAt (Elt F) allR.toLoadRect (v.w c))

/-- The sum that device `c` holds of the first half's chunk `chunkA c h`, after `h` hops. -/
def sumA : ℕ → Dev nD → FVec F S1024x1024 .bf16
  | 0, c => part v c (chunkA c 0)
  | h + 1, c => acc (part v c (chunkA c (h + 1))) (sumA h (prv c))
/-- The same for the second half, whose sums travel the other way. -/
def sumB : ℕ → Dev nD → FVec F S1024x1024 .bf16
  | 0, c => part v c (chunkB c 0)
  | h + 1, c => acc (part v c (chunkB c (h + 1))) (sumB h (nxt c))

/-- What transfer `j` of device `c` carries. -/
def carried (c : Dev nD) (j : Fin 12) : FVec F S1024x1024 .bf16 :=
  if j.val < 3 then sumA v j.val c
  else if j.val < 6 then sumA v 3 (back c (j.val - 3))
  else if j.val < 9 then sumB v (j.val - 6) c
  else sumB v 3 (fwd c (j.val - 9))

/-- The finished chunk `r`: the sum held by the device that adds last. -/
def finished (r : Fin 8) : FVec F S1024x1024 .bf16 :=
  if r.val < 4 then sumA v 3 ⟨(r.val + 3) % 4, Nat.mod_lt _ (by decide)⟩ else sumB v 3 ⟨(r.val + 1) % 4, Nat.mod_lt _ (by decide)⟩

end Cert.Conv

end
-- ==== Proof.Proto.lean ====
/-
The protocol: who hands what to whom at each semaphore, what each device still owes, and
the order of the cells that rules out a deadlock.

The barrier hands each neighbour two landing buffers. Every later hand-over of a buffer
that a neighbour may write rides on a transfer the other way, which is sent after the
buffer has been read.
-/
module

public import proofs.«01_k».proof.Proof.Values

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (v : Vals F)

/-! ## What the cells hand over -/

/-- The four shares in which a device holds its rows of the input: one per copy in flight. -/
def xq (s : Fin 2) : PosShare TreeShare := if s = 0 then fullShare.left.left else fullShare.left.right
def hq (s : Fin 2) : PosShare TreeShare := if s = 0 then fullShare.right.left else fullShare.right.right

/-- The place where transfer `j` lands on device `d`, whatever it holds. -/
def room (d : Dev nD) (j : Fin 12) : sProp 𝕄 := iprop(∃ X, owns (d : Thread nD τ) (landM d j) fullShare X)
/-- The right to start the transfer `j` that lands on device `d`. -/
def right (d : Dev nD) (j : Fin 12) : sProp 𝕄 := iprop(room (F := F) d j ∗ reached ER (rCell d j) 0)

/-- What device `e` hands over along with its transfer `j`: room for later transfers the other way. -/
def extra (e : Dev nD) (j : Fin 12) : sProp 𝕄 :=
  if j = 1 then iprop(right (F := F) e 8 ∗ right (F := F) e 9)
  else if j = 2 then right (F := F) e 10
  else if j = 3 then right (F := F) e 11
  else if j = 7 then iprop(right (F := F) e 2 ∗ right (F := F) e 3)
  else if j = 8 then right (F := F) e 4
  else if j = 9 then right (F := F) e 5
  else iprop(emp)

def sPay (c : Dev nD) (j : Fin 12) : sProp 𝕄 := owns (c : Thread nD τ) (outC (srcC c j)) fullShare (carried v c j)
def rPay (d : Dev nD) (j : Fin 12) : sProp 𝕄 :=
  iprop(owns (d : Thread nD τ) (landM d j) fullShare (carried v (frm d j) j) ∗ extra (F := F) (frm d j) j)
def xPay (c : Dev nD) (i : Fin 8) : sProp 𝕄 :=
  iprop(owns (c : Thread nD τ) (xSlot (par i)) fullShare ((inC (fetC c i)).view.read (Elt F) (v.x c))
    ∗ ((inC (fetC c i)).view.loc (c : Thread nD τ) ↦[(inC (fetC c i)).view.set]{xq (par i)} v.x c))
def hPay (c : Dev nD) (i : Fin 8) : sProp 𝕄 :=
  iprop(owns (c : Thread nD τ) (hSlot (par i)) fullShare ((inH (fetC c i)).view.read (Elt F) (v.x c))
    ∗ ((inH (fetC c i)).view.loc (c : Thread nD τ) ↦[(inH (fetC c i)).view.set]{hq (par i)} v.x c))
/-- The barrier: from the right neighbour (`true`) room for the first two transfers to the right, from the left one the same to the left. -/
def bPay (d : Dev nD) (b : Bool) : sProp 𝕄 :=
  if b then iprop(right (F := F) (nxt d) 0 ∗ right (F := F) (nxt d) 1) else iprop(right (F := F) (prv d) 6 ∗ right (F := F) (prv d) 7)

instance right_storable (d : Dev nD) (j : Fin 12) : BI.Storable (upEmb : UEmb _ 𝕄) (right (F := F) d j) := by
  unfold right room; infer_instance
instance extra_storable (e : Dev nD) (j : Fin 12) : BI.Storable (upEmb : UEmb _ 𝕄) (extra (F := F) e j) := by
  unfold extra; (repeat' split) <;> infer_instance
instance sPay_storable (c : Dev nD) (j : Fin 12) : BI.Storable (upEmb : UEmb _ 𝕄) (sPay v c j) := by unfold sPay; infer_instance
instance rPay_storable (c : Dev nD) (j : Fin 12) : BI.Storable (upEmb : UEmb _ 𝕄) (rPay v c j) := by unfold rPay; infer_instance
instance xPay_storable (c : Dev nD) (i : Fin 8) : BI.Storable (upEmb : UEmb _ 𝕄) (xPay v c i) := by unfold xPay; infer_instance
instance hPay_storable (c : Dev nD) (i : Fin 8) : BI.Storable (upEmb : UEmb _ 𝕄) (hPay v c i) := by unfold hPay; infer_instance
instance bPay_storable (d : Dev nD) (b : Bool) : BI.Storable (upEmb : UEmb _ 𝕄) (bPay (F := F) d b) := by
  unfold bPay; split <;> infer_instance

/-! ## The schedule -/

/-- What a transfer semaphore is for. -/
inductive Use where
  | other
  | fetchX (i : Fin 8)
  | fetchH (i : Fin 8)
  | send (j : Fin 12)
  | recv (j : Fin 12)
  deriving DecidableEq

def useOf (s : DmaSem sig) : Use :=
  if h : s.val < 3 then .other
  else if h : s.val < 11 then .fetchX ⟨s.val - 3, by omega⟩
  else if h : s.val < 19 then .fetchH ⟨s.val - 11, by omega⟩
  else if h : s.val < 31 then .send ⟨s.val - 19, by omega⟩
  else .recv ⟨s.val - 31, by have : s.val < 43 := s.isLt; omega⟩

theorem useOf_x (i : Fin 8) : useOf (xS i) = .fetchX i := by revert i; decide
theorem useOf_h (i : Fin 8) : useOf (hS i) = .fetchH i := by revert i; decide
theorem useOf_s (j : Fin 12) : useOf (sS j) = .send j := by revert j; decide
theorem useOf_r (j : Fin 12) : useOf (rS j) = .recv j := by revert j; decide

def dutiesAt : SemLoc sig → Finset Bool
  | .reg s => if s = barS then Finset.univ else ∅
  | .dma s => if useOf s = .other then ∅ else {false}
def amountAt : SemLoc sig → ℕ
  | .reg _ => 1
  | .dma s => match useOf s with
    | .fetchX _ => NX
    | .fetchH _ => NH
    | _ => NC
def payAt (d : Dev nD) (b : Bool) : SemLoc sig → sProp 𝕄
  | .reg _ => bPay (F := F) d b
  | .dma s => match useOf s with
    | .other => iprop(emp)
    | .fetchX i => xPay v d i
    | .fetchH i => hPay v d i
    | .send j => sPay v d j
    | .recv j => rPay v d j

def Rd : Rounds.Schedule (GSem nD τ sig) Bool 𝕄 where
  duties g r := if r = 0 then dutiesAt g.2 else ∅
  unitless _ := False
  amount g _ _ := amountAt g.2
  payload g _ b := payAt v g.1.1 b g.2
  amount_pos g _ _ _ := by
    rcases g with ⟨t, (s | s)⟩
    · exact Nat.one_pos
    · show 0 < amountAt (.dma s)
      unfold amountAt
      dsimp only
      split
      · exact NX_pos
      · exact NH_pos
      · exact NC_pos

instance Rd_storable (g : GSem nD τ sig) (r : ℕ) (b : Bool) : BI.Storable (upEmb : UEmb _ 𝕄) ((Rd v).payload g r b) := by
  show BI.Storable upEmb (payAt v g.1.1 b g.2)
  rcases g with ⟨t, (s | s)⟩
  · show BI.Storable upEmb (bPay (F := F) t.1 b); infer_instance
  · unfold payAt; dsimp only; split <;> infer_instance

theorem duties_later (g : GSem nD τ sig) : ∀ r, 1 ≤ r → (Rd v).duties g r = ∅ :=
  fun r hr => by dsimp only [Rd]; exact if_neg (by omega)

section Cells
variable (c : Dev nD)

theorem duties_bar : (Rd v).duties (barCell c) 0 = Finset.univ := by dsimp only [Rd, dutiesAt]; rw [if_pos rfl, if_pos rfl]
theorem duties_x (i : Fin 8) : (Rd v).duties (xCell c i) 0 = {false} := by
  dsimp only [Rd, dutiesAt]; rw [if_pos rfl, useOf_x, if_neg (fun h => nomatch h)]
theorem duties_h (i : Fin 8) : (Rd v).duties (hCell c i) 0 = {false} := by
  dsimp only [Rd, dutiesAt]; rw [if_pos rfl, useOf_h, if_neg (fun h => nomatch h)]
theorem duties_s (j : Fin 12) : (Rd v).duties (sCell c j) 0 = {false} := by
  dsimp only [Rd, dutiesAt]; rw [if_pos rfl, useOf_s, if_neg (fun h => nomatch h)]
theorem duties_r (j : Fin 12) : (Rd v).duties (rCell c j) 0 = {false} := by
  dsimp only [Rd, dutiesAt]; rw [if_pos rfl, useOf_r, if_neg (fun h => nomatch h)]

theorem amount_bar (b : Bool) : (Rd v).amount (barCell c) 0 b = 1 := rfl
theorem amount_x (i : Fin 8) (b : Bool) : (Rd v).amount (xCell c i) 0 b = NX := by dsimp only [Rd, amountAt]; rw [useOf_x]
theorem amount_h (i : Fin 8) (b : Bool) : (Rd v).amount (hCell c i) 0 b = NH := by dsimp only [Rd, amountAt]; rw [useOf_h]
theorem amount_s (j : Fin 12) (b : Bool) : (Rd v).amount (sCell c j) 0 b = NC := by dsimp only [Rd, amountAt]; rw [useOf_s]
theorem amount_r (j : Fin 12) (b : Bool) : (Rd v).amount (rCell c j) 0 b = NC := by dsimp only [Rd, amountAt]; rw [useOf_r]

theorem pay_bar (b : Bool) : (Rd v).payload (barCell c) 0 b = bPay (F := F) c b := rfl
theorem pay_x (i : Fin 8) (b : Bool) : (Rd v).payload (xCell c i) 0 b = xPay v c i := by dsimp only [Rd, payAt]; rw [useOf_x]
theorem pay_h (i : Fin 8) (b : Bool) : (Rd v).payload (hCell c i) 0 b = hPay v c i := by dsimp only [Rd, payAt]; rw [useOf_h]
theorem pay_s (j : Fin 12) (b : Bool) : (Rd v).payload (sCell c j) 0 b = sPay v c j := by dsimp only [Rd, payAt]; rw [useOf_s]
theorem pay_r (j : Fin 12) (b : Bool) : (Rd v).payload (rCell c j) 0 b = rPay v c j := by dsimp only [Rd, payAt]; rw [useOf_r]

theorem expect_bar : (Rd v).expect (barCell c) 0 = 2 := by
  unfold Schedule.expect Schedule.amountOf
  rw [duties_bar, Finset.sum_congr rfl fun d _ => amount_bar v c d, Finset.sum_const, Finset.card_univ, Fintype.card_bool, smul_eq_mul]
theorem expect_x (i : Fin 8) : (Rd v).expect (xCell c i) 0 = NX := by
  unfold Schedule.expect Schedule.amountOf; rw [duties_x, Finset.sum_singleton, amount_x]
theorem expect_h (i : Fin 8) : (Rd v).expect (hCell c i) 0 = NH := by
  unfold Schedule.expect Schedule.amountOf; rw [duties_h, Finset.sum_singleton, amount_h]
theorem expect_s (j : Fin 12) : (Rd v).expect (sCell c j) 0 = NC := by
  unfold Schedule.expect Schedule.amountOf; rw [duties_s, Finset.sum_singleton, amount_s]
theorem expect_r (j : Fin 12) : (Rd v).expect (rCell c j) 0 = NC := by
  unfold Schedule.expect Schedule.amountOf; rw [duties_r, Finset.sum_singleton, amount_r]

theorem rest_bar : bigSep ((Rd v).duties (barCell c) 0 \ ∅) (fun b => (Rd v).payload (barCell c) 0 b)
    = iprop(bPay (F := F) c false ∗ bPay (F := F) c true) := by
  rw [Finset.sdiff_empty, duties_bar, bigSep_univ_eq_bigSepL [false, true] (by decide) (by decide), bigSepL_cons_cons, bigSepL_singleton]
  rfl
theorem rest_one {g : GSem nD τ sig} (h : (Rd v).duties g 0 = {false}) :
    bigSep ((Rd v).duties g 0 \ ∅) (fun b => (Rd v).payload g 0 b) = (Rd v).payload g 0 false := by
  rw [Finset.sdiff_empty, h, bigSep_singleton]

end Cells

/-! ## What a device owes, and the levels -/

/-- The transfers in the order they start, last first: with `k + 1` of them to start, the next is `nextJ k`. -/
def nextJ (k : ℕ) : Fin 12 := ⟨((11 - k) / 2 + 6 * ((11 - k) % 2)) % 12, Nat.mod_lt _ (by decide)⟩

/-- What device `c` owes while it has `k` transfers to start: the credit of each, to where it lands. -/
def owing (c : Dev nD) : ℕ → CellTallies nD τ sig Unit
  | 0 => 0
  | k + 1 => owing c k + tallyAt (rCell (tgt c (nextJ k)) (nextJ k)) () NC
def owing1 (c : Dev nD) : CellTallies nD τ sig Unit := owing c 12 + tallyAt (barCell (nxt c)) () 1
/-- At launch it also owes each neighbour a unit at its barrier. -/
def owing0 (c : Dev nD) : CellTallies nD τ sig Unit := owing1 c + tallyAt (barCell (prv c)) () 1

def L (g : GSem nD τ sig) : Finset Unit := if g.1.2 = .tc then {()} else ∅
/-- The barrier below the landing cells, these by hop; all others at the bottom. -/
def lvAt : SemLoc sig → ℕ
  | .reg _ => 1
  | .dma s => match useOf s with
    | .recv j => 2 + j.val % 6
    | _ => 0
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem lv_x (i : Fin 8) : lvAt (.dma (xS i)) = 0 := by dsimp only [lvAt]; rw [useOf_x]
theorem lv_h (i : Fin 8) : lvAt (.dma (hS i)) = 0 := by dsimp only [lvAt]; rw [useOf_h]
theorem lv_s (j : Fin 12) : lvAt (.dma (sS j)) = 0 := by dsimp only [lvAt]; rw [useOf_s]
theorem lv_r (j : Fin 12) : lvAt (.dma (rS j)) = 2 + j.val % 6 := by dsimp only [lvAt]; rw [useOf_r]

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem owing_pos {c : Dev nD} {k : ℕ} {g : GSem nD τ sig} {u : Unit} (h : 0 < owing c k g u) :
    ∃ i, i < k ∧ g = rCell (tgt c (nextJ i)) (nextJ i) := by
  induction k with
  | zero => exact absurd h (Nat.lt_irrefl 0)
  | succ k ih =>
    unfold owing at h
    rw [Pi.add_apply, Finsupp.add_apply] at h
    rcases Nat.eq_zero_or_pos (owing c k g u) with h0 | h0
    · rw [h0, Nat.zero_add] at h; exact ⟨k, Nat.lt_succ_self k, tally_pos h⟩
    · obtain ⟨i, hi, hg⟩ := ih h0; exact ⟨i, Nat.lt_succ_of_lt hi, hg⟩

theorem owing0_pos {c : Dev nD} {g : GSem nD τ sig} {u : Unit} (h : 0 < owing0 c g u) :
    (∃ i, i < 12 ∧ g = rCell (tgt c (nextJ i)) (nextJ i)) ∨ g = barCell (nxt c) ∨ g = barCell (prv c) := by
  unfold owing0 owing1 at h
  rw [Pi.add_apply, Finsupp.add_apply, Pi.add_apply, Finsupp.add_apply] at h
  rcases Nat.eq_zero_or_pos (owing c 12 g u) with h0 | h0
  · rw [h0, Nat.zero_add] at h
    rcases Nat.eq_zero_or_pos (tallyAt (barCell (nxt c)) () 1 g u) with h1 | h1
    · rw [h1, Nat.zero_add] at h; exact .inr (.inr (tally_pos h))
    · exact .inr (.inl (tally_pos h1))
  · exact .inl (owing_pos h0)

/-- A device with `k` transfers to start may wait at a cell of its own that lies below all of these. -/
theorem mayWait (c : Dev nD) (sm : SemLoc sig) (k : ℕ) (n : ℕ) (hs : lvAt sm ≤ n) (hk : ∀ i, i < k → n < 2 + (nextJ i).val % 6) :
    (levAts L lv : sProp 𝕄) ⊢ MayWait (c : Thread nD τ) sm () (owing c k) :=
  MayOwe.of_cut (L := L) (lev := lv) n (fun p hp => by rw [Finset.mem_singleton.mp hp, L_tc]; exact Finset.mem_singleton_self _)
    (fun g u hg => by obtain ⟨i, -, rfl⟩ := owing_pos hg; exact Finset.mem_singleton_self _)
    (fun p hp => by rw [Finset.mem_singleton.mp hp]; exact hs)
    (fun g u hg => by
      obtain ⟨i, hi, rfl⟩ := owing_pos hg
      show n < lvAt (.dma (rS (nextJ i)))
      rw [lv_r]; exact hk i hi)

end Cert.Conv

end
-- ==== Proof.Rules.lean ====
/-
The kernel's steps, each as one rule at a device `c`: fetching a chunk of the input,
computing a device's contribution to it, starting a transfer to a neighbour, waiting for
a pair of transfers, adding what has landed.

A rule takes the memrefs and semaphores as they are written in the program, with proofs
of which chunk, buffer or semaphore each one is.
-/
module

public import proofs.«01_k».proof.Proof.Proto

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (v : Vals F) (κ : GSem nD τ sig → ℕ) (c : Dev nD)

/-- A device's run of a program to a postcondition. -/
abbrev Runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' invariants -/

/-- The cells of the protocol, by kind. -/
def barCells : Finset (GSem nD τ sig) := Finset.univ.image barCell
def dmaCells : Finset (GSem nD τ sig) :=
  (Finset.univ.image fun p : Dev nD × Fin 8 => xCell p.1 p.2) ∪ (Finset.univ.image fun p : Dev nD × Fin 8 => hCell p.1 p.2)
    ∪ (Finset.univ.image fun p : Dev nD × Fin 12 => sCell p.1 p.2) ∪ (Finset.univ.image fun p : Dev nD × Fin 12 => rCell p.1 p.2)

theorem mem_bar (c : Dev nD) : barCell c ∈ barCells ∪ dmaCells := by
  unfold barCells; exact Finset.mem_union_left _ (Finset.mem_image_of_mem _ (Finset.mem_univ c))
theorem mem_x (c : Dev nD) (i : Fin 8) : xCell c i ∈ barCells ∪ dmaCells := by
  unfold dmaCells; simp only [Finset.mem_union, Finset.mem_image, Finset.mem_univ, true_and]
  exact .inr (.inl (.inl (.inl ⟨(c, i), rfl⟩)))
theorem mem_h (c : Dev nD) (i : Fin 8) : hCell c i ∈ barCells ∪ dmaCells := by
  unfold dmaCells; simp only [Finset.mem_union, Finset.mem_image, Finset.mem_univ, true_and]
  exact .inr (.inl (.inl (.inr ⟨(c, i), rfl⟩)))
theorem mem_s (c : Dev nD) (j : Fin 12) : sCell c j ∈ barCells ∪ dmaCells := by
  unfold dmaCells; simp only [Finset.mem_union, Finset.mem_image, Finset.mem_univ, true_and]
  exact .inr (.inl (.inr ⟨(c, j), rfl⟩))
theorem mem_r (c : Dev nD) (j : Fin 12) : rCell c j ∈ barCells ∪ dmaCells := by
  unfold dmaCells; simp only [Finset.mem_union, Finset.mem_image, Finset.mem_univ, true_and]
  exact .inr (.inr ⟨(c, j), rfl⟩)

/-- Every cell's invariant, and the levels. -/
def known : sProp 𝕄 :=
  iprop((bigSep (barCells ∪ dmaCells) fun g => cellInv ER (Rd v) (κ g) g) ∗ levAts L lv)
instance known_persistent : BI.Persistent (known v κ) := by unfold known; infer_instance

theorem known_inv {g : GSem nD τ sig} (hg : g ∈ barCells ∪ dmaCells) : known v κ ⊢ cellInv ER (Rd v) (κ g) g := by
  unfold known; iintro ⟨H, -⟩
  have h : (bigSep (barCells ∪ dmaCells) fun g => cellInv ER (Rd v) (κ g) g) ⊢ cellInv ER (Rd v) (κ g) g := bigSep_elim hg
  iapply h; iexact H
theorem known_lev : known v κ ⊢ (levAts L lv : sProp 𝕄) := by
  unfold known; iintro ⟨-, H⟩; iexact H

/-- What the device still owes with `k` transfers to start. -/
def Owing (k : ℕ) : sProp 𝕄 := iprop(∃ W, owes (c : Thread nD τ) (owing c k) W)

/-! ## Waiting at one cell -/

/-- A wait for the one instalment of a cell of the device's own: what was handed over, and the semaphore back at zero. -/
theorem wp_wait_one (q : DmaSem sig) (k n N : ℕ) (hlv : lvAt (.dma q) ≤ n) (hk : ∀ i, i < k → n < 2 + (nextJ i).val % 6)
    (hg : ((c : Thread nD τ), SemLoc.dma q) ∈ barCells ∪ dmaCells)
    (hd : (Rd v).duties ((c : Thread nD τ), .dma q) 0 = {false}) (he : (Rd v).expect ((c : Thread nD τ), .dma q) 0 = N)
    {P : sProp 𝕄} (hP : (Rd v).payload ((c : Thread nD τ), .dma q) 0 false = P)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {p : PUnit → Prog (TpuEff nD τ sig (Elt F) Λ₀ .tc) α} :
    iprop(known v κ ∗ Owing (F := F) c k ∗ cred (tallyAt ((c : Thread nD τ), SemLoc.dma q) () N) ∗ atPos ER ((c : Thread nD τ), .dma q) 0 ∅ 0)
      ⊢ iprop(((Owing (F := F) c k ∗ semVal ((c : Thread nD τ), .dma q) 0 ∗ P) -∗ Runs c (p ⟨⟩) Q)
          -∗ Runs c (.op (.waitDma2 q src dst hsrc hdst) p) Q) := by
  unfold Owing
  iintro ⟨#HK, ⟨%W, HO⟩, Hc, Hat⟩ Hk
  ihave #HI := (known_inv v κ hg) $$ HK
  iapply (Rounds.wp_wait_rest_token 𝒱₀ ER (Rd v) (c : Thread nD τ) none (κ := κ ((c : Thread nD τ), SemLoc.dma q))
      (wpE_waitDma2_eq 𝒱₀ (c : Thread nD τ) none Set.univ) (Set.mem_univ _) () (O := owing c k) (W := W) (R := 0) (m := 0) (T := ∅)
      (by rw [Nat.zero_add, hN, he])) $$ [Hc HO Hat]
  · isplitr; · iexact HI
    isplitl [Hc]; · rw [hN]; iexact Hc
    isplitl [HO]; · iexact HO
    isplitr
    · iapply (mayWait c (.dma q) k n hlv hk); iapply (known_lev v κ); iexact HK
    iexact Hat
  iintro ⟨HO, Hat, -, Hpay⟩
  imod (Rounds.cell_close ER (Rd v) (Set.mem_univ (κ ((c : Thread nD τ), SemLoc.dma q))) (fun h => h) (R := 0 + 1) (duties_later v _)) $$ [Hat] with Hz
  · isplitr; · iexact HI
    iexact Hat
  iapply Hk
  isplitl [HO]; · iexists _; iexact HO
  isplitl [Hz]; · iexact Hz
  iapply (Entails.of_eq ((rest_one v hd).trans hP)); iexact Hpay

/-! ## The barrier -/

/-- A device's place at its barrier, the tokens of the two units it owes, and the four landing buffers it gives away. -/
def barrierKit : sProp 𝕄 :=
  iprop((dutyTok ER (barCell (prv c)) 0 true ∗ reached ER (barCell (prv c)) 0) ∗ (dutyTok ER (barCell (nxt c)) 0 false ∗ reached ER (barCell (nxt c)) 0)
    ∗ (right (F := F) c 0 ∗ right (F := F) c 1) ∗ (right (F := F) c 6 ∗ right (F := F) c 7)
    ∗ atPos ER (barCell c) 0 ∅ 0 ∗ cred (tallyAt (barCell c) () 2))

/-- Signal both neighbours and wait for both: each gives room for the first two transfers to it. -/
theorem wp_barrier {n₁ n₂ : Dev nD} (h₁ : n₁ = prv c) (h₂ : n₂ = nxt c) {q : Sem sig} (hq : q = barS) {W : Waits sig Unit}
    {α : Type} {Q : α → sProp 𝕄} {p : PUnit → Prog (TpuEff nD τ sig (Elt F) Λ₀ .tc) α} :
    iprop(known v κ ∗ owes (c : Thread nD τ) (owing0 c) W ∗ barrierKit (F := F) c)
      ⊢ iprop(((Owing (F := F) c 12 ∗ semVal (barCell c) 0 ∗ (right (F := F) (nxt c) 0 ∗ right (F := F) (nxt c) 1)
            ∗ (right (F := F) (prv c) 6 ∗ right (F := F) (prv c) 7)) -∗ Runs c (p ⟨⟩) Q)
          -∗ Runs c (.op (.semSignal (Dev.tc n₁ : Thread nD τ) q (1#32 : BitVec 32).toInt) fun _ =>
              .op (.semSignal (Dev.tc n₂ : Thread nD τ) q (1#32 : BitVec 32).toInt) fun _ =>
              .op (.semWait q (2#32 : BitVec 32).toInt) p) Q) := by
  subst h₁ h₂ hq
  unfold barrierKit
  iintro ⟨#HK, HO, ⟨Ht1, #Hr1⟩, ⟨Ht2, #Hr2⟩, Ha, Hb, Hat, Hc⟩ Hk
  ihave #HI1 := (known_inv v κ (mem_bar (prv c))) $$ HK
  ihave #HI2 := (known_inv v κ (mem_bar (nxt c))) $$ HK
  ihave #HI := (known_inv v κ (mem_bar c)) $$ HK
  iapply (Rounds.wp_signal 𝒱₀ ER (Rd v) (c : Thread nD τ) none (dst := (prv c : Thread nD τ)) (κ := κ (barCell (prv c)))
      (d := true) (r := 0) (by rw [duties_bar]; exact Finset.mem_univ _) ((amount_bar v (prv c) true).trans (by decide)) () (owing1 c) rfl) $$ [HO Ht1 Ha]
  · isplitr; · iexact HI1
    isplitl [HO]; · iexact HO
    isplitl [Ht1]; · iexact Ht1
    isplitl [Ha]
    · rw [pay_bar]; unfold bPay; rw [nxt_prv, if_pos rfl]; iexact Ha
    · iexact Hr1
  iintro HO
  iapply (Rounds.wp_signal 𝒱₀ ER (Rd v) (c : Thread nD τ) none (dst := (nxt c : Thread nD τ)) (κ := κ (barCell (nxt c)))
      (d := false) (r := 0) (by rw [duties_bar]; exact Finset.mem_univ _) ((amount_bar v (nxt c) false).trans (by decide)) () (owing c 12) rfl) $$ [HO Ht2 Hb]
  · isplitr; · iexact HI2
    isplitl [HO]; · iexact HO
    isplitl [Ht2]; · iexact Ht2
    isplitl [Hb]
    · rw [pay_bar]; unfold bPay; rw [prv_nxt, if_neg (by decide)]; iexact Hb
    · iexact Hr2
  iintro HO
  iapply (Rounds.wp_wait_rest_token 𝒱₀ ER (Rd v) (c : Thread nD τ) none (κ := κ (barCell c))
      (wpE_semWait_eq 𝒱₀ (c : Thread nD τ) none Set.univ) (Set.mem_univ _) () (O := owing c 12) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) 12 1 le_rfl (fun i _ => by omega)); iapply (known_lev v κ); iexact HK
    iexact Hat
  iintro ⟨HO, Hat, -, Hpay⟩
  imod (Rounds.cell_close ER (Rd v) (Set.mem_univ (κ (barCell c))) (fun h => h) (R := 0 + 1) (duties_later v _)) $$ [Hat] with Hz
  · isplitr; · iexact HI
    iexact Hat
  ihave Hp := (Entails.of_eq (rest_bar v c)) $$ Hpay
  icases Hp with ⟨Hf, Ht⟩
  iapply Hk
  isplitl [HO]; · unfold Owing; iexists _; iexact HO
  isplitl [Hz]; · iexact Hz
  isplitl [Ht]
  · iapply (Entails.of_eq (show bPay (F := F) c true = _ from if_pos rfl)); iexact Ht
  · iapply (Entails.of_eq (show bPay (F := F) c false = _ from if_neg (by decide))); iexact Hf

/-! ## Fetching -/

/-- A fetch's tickets: the device's place at its two cells and the right to fill them. -/
def ticket (i : Fin 8) : sProp 𝕄 :=
  iprop((atPos ER (xCell c i) 0 ∅ 0 ∗ reached ER (xCell c i) 0 ∗ dutyTok ER (xCell c i) 0 false)
    ∗ (atPos ER (hCell c i) 0 ∅ 0 ∗ reached ER (hCell c i) 0 ∗ dutyTok ER (hCell c i) 0 false))

/-- A pair of input buffers at rest, with two shares of the input. -/
def idle (s : Fin 2) : sProp 𝕄 :=
  iprop((∃ X, owns (c : Thread nD τ) (xSlot s) fullShare X) ∗ (∃ X, owns (c : Thread nD τ) (hSlot s) fullShare X)
    ∗ ((c : Thread nD τ).loc main_v1 ↦{xq s} v.x c) ∗ ((c : Thread nD τ).loc main_v1 ↦{hq s} v.x c))

/-- Both copies of fetch `i` in flight: the rest of the input, and the tickets to wait. -/
def flying (i : Fin 8) : sProp 𝕄 :=
  iprop(((c : Thread nD τ).loc main_v1 ↦[Finset.univ \ (inC (fetC c i)).view.set]{xq (par i)} v.x c)
    ∗ ((c : Thread nD τ).loc main_v1 ↦[Finset.univ \ (inH (fetC c i)).view.set]{hq (par i)} v.x c)
    ∗ (cred (tallyAt (xCell c i) () NX) ∗ atPos ER (xCell c i) 0 ∅ 0) ∗ (cred (tallyAt (hCell c i) () NH) ∗ atPos ER (hCell c i) 0 ∅ 0))

theorem wp_fetch (i : Fin 8) {sx : Memref sig .tc .hbm S1024x1024 .f32} {dx : Memref sig .tc .vmem S1024x1024 .f32} {qx : DmaSem sig}
    {sh : Memref sig .tc .hbm S8x1024 .f32} {dh : Memref sig .tc .vmem S8x1024 .f32} {qh : DmaSem sig}
    (h1 : sx = inC (fetC c i)) (h2 : dx = xSlot (par i)) (h3 : qx = xS i)
    (h4 : sh = inH (fetC c i)) (h5 : dh = hSlot (par i)) (h6 : qh = hS i)
    {hs1 : sx.view.WordExact} {hd1 : dx.view.WordExact} {ht1 : DmaTarget.Typed .hbm (.dma qx) (.here dx : DmaTarget nD τ sig (c : Thread nD τ).2 .vmem S1024x1024 .f32)}
    {hs2 : sh.view.WordExact} {hd2 : dh.view.WordExact} {ht2 : DmaTarget.Typed .hbm (.dma qh) (.here dh : DmaTarget nD τ sig (c : Thread nD τ).2 .vmem S8x1024 .f32)}
    {α : Type} {Q : α → sProp 𝕄} {p : PUnit → Prog (TpuEff nD τ sig (Elt F) Λ₀ .tc) α} :
    iprop(known v κ ∗ idle v c (par i) ∗ ticket (F := F) c i)
      ⊢ iprop((flying v c i -∗ Runs c (p ⟨⟩) Q)
          -∗ Runs c (.op (.enqueueDma sx (.here dx) (.dma qx) hs1 hd1 ht1) fun _ => .op (.enqueueDma sh (.here dh) (.dma qh) hs2 hd2 ht2) p) Q) := by
  subst h1 h2 h3 h4 h5 h6
  unfold idle ticket flying owns
  iintro ⟨#HK, ⟨⟨%X, %fx, %hx, Hx⟩, ⟨%Y, %fh, %hh, Hh⟩, Hmx, Hmh⟩, ⟨Hax, Hrx, Htx⟩, ⟨Hah, Hrh, Hth⟩⟩ Hk
  ihave Hmx := (pointsTo_split_subset (Finset.subset_univ (inC (fetC c i)).view.set)).1 $$ Hmx
  icases Hmx with ⟨Hmx, Hcx⟩
  ihave Hmh := (pointsTo_split_subset (Finset.subset_univ (inH (fetC c i)).view.set)).1 $$ Hmh
  icases Hmh with ⟨Hmh, Hch⟩
  iapply (Rounds.wp_copy_pointsTo 𝒱₀ ER (Rd v) (c : Thread nD τ) none (src := inC (fetC c i)) (dst := xSlot (par i)) (κ := κ (xCell c i)) (r := 0) (d := false)
      (q := xq (par i)) (fs := v.x c) (fd := fx)
      (by rw [duties_x v c i]; exact Finset.mem_singleton_self _) () NX rfl (amount_x v c i false)
      (by
        rw [pay_x]; unfold xPay owns
        iintro ⟨Ha, Hb⟩
        isplitl [Ha]
        · iexists _; isplitr; rotate_left; · iexact Ha
          ipureintro; exact View.read_write_univ _ _
        · iexact Hb)) $$ [Hmx Hx Htx Hrx]
  · isplitr; · iapply (known_inv v κ (mem_x c i)); iexact HK
    isplitl [Hmx]; · iexact Hmx
    isplitl [Hx]; · iexact Hx
    isplitl [Htx]; · iexact Htx
    iexact Hrx
  iintro Hcredx
  iapply (Rounds.wp_copy_pointsTo 𝒱₀ ER (Rd v) (c : Thread nD τ) none (src := inH (fetC c i)) (dst := hSlot (par i)) (κ := κ (hCell c i)) (r := 0) (d := false)
      (q := hq (par i)) (fs := v.x c) (fd := fh)
      (by rw [duties_h v c i]; exact Finset.mem_singleton_self _) () NH rfl (amount_h v c i false)
      (by
        rw [pay_h]; unfold hPay owns
        iintro ⟨Ha, Hb⟩
        isplitl [Ha]
        · iexists _; isplitr; rotate_left; · iexact Ha
          ipureintro; exact View.read_write_univ _ _
        · iexact Hb)) $$ [Hmh Hh Hth Hrh]
  · isplitr; · iapply (known_inv v κ (mem_h c i)); iexact HK
    isplitl [Hmh]; · iexact Hmh
    isplitl [Hh]; · iexact Hh
    isplitl [Hth]; · iexact Hth
    iexact Hrh
  iintro Hcredh
  iapply Hk
  isplitl [Hcx]; · iexact Hcx
  isplitl [Hch]; · iexact Hch
  isplitl [Hcredx Hax]
  · isplitl [Hcredx] <;> iassumption
  isplitl [Hcredh] <;> iassumption

/-! ## Loads and stores -/

/-- A load of the rectangle that a squeezed slice is: what it reads, at the squeezed shape, is what is owned. -/
theorem wp_load_squeezed {s s' : Shape} {e : EltTy} {m : Memref sig .tc .vmem s e} {r : Rect s} {hr : ∀ a, r.stride a = 1}
    {hsq : r.shape.Squeezes s'} {X : s'.Idx → Elt F e} {hl : m.view.LoadsAt r.toLoadRect}
    {α : Type} {Q : α → sProp 𝕄} {p : (r.shape.Idx → Elt F e) → Prog (TpuEff nD τ sig (Elt F) Λ₀ .tc) α} :
    (owns (c : Thread nD τ) ((m.slice r hr).squeeze s' hsq) fullShare X : sProp 𝕄)
      ⊢ iprop((∀ Y, iprop(⌜shapeCast s' Y hsq.numel_eq = X⌝ ∗ owns (c : Thread nD τ) ((m.slice r hr).squeeze s' hsq) fullShare X) -∗ Runs c (p Y) Q)
          -∗ Runs c (.op (.load m r.toLoadRect hl) p) Q) := by
  unfold owns
  iintro ⟨%f, %hf, H⟩ Hk
  iapply (wp_load 𝒱₀ (c : Thread nD τ) none Set.univ (m := m) (S := ((m.slice r hr).squeeze s' hsq).view.set) (f := f)
    ((View.set_reshape (v := (m.slice r hr).view) hsq.numel_eq).trans (View.set_slice (v := m.view) r)).ge) $$ [H]
  · iexact H
  iintro H
  iapply Hk $$ %(m.view.readAt (Elt F) r.toLoadRect f)
  isplitr; · ipureintro; exact hf
  iexists f
  isplitr; · ipureintro; exact hf
  iexact H

/-- A load of the rectangle that a slice is. -/
theorem wp_load_slice {s : Shape} {e : EltTy} {m : Memref sig .tc .vmem s e} {r : Rect s} {hr : ∀ a, r.stride a = 1}
    {X : r.shape.Idx → Elt F e} {hl : m.view.LoadsAt r.toLoadRect}
    {α : Type} {Q : α → sProp 𝕄} {p : (r.shape.Idx → Elt F e) → Prog (TpuEff nD τ sig (Elt F) Λ₀ .tc) α} :
    (owns (c : Thread nD τ) (m.slice r hr) fullShare X : sProp 𝕄)
      ⊢ iprop((owns (c : Thread nD τ) (m.slice r hr) fullShare X -∗ Runs c (p X) Q)
          -∗ Runs c (.op (.load m r.toLoadRect hl) p) Q) := by
  unfold owns
  iintro ⟨%f, %hf, H⟩ Hk
  iapply (wp_load 𝒱₀ (c : Thread nD τ) none Set.univ (m := m) (S := (m.slice r hr).view.set) (f := f)
    (View.set_slice (v := m.view) r).ge) $$ [H]
  · iexact H
  iintro H
  have hf' : m.view.readAt (Elt F) r.toLoadRect f = X := hf
  rw [hf']
  iapply Hk
  iexists f
  isplitr; · ipureintro; exact hf
  iexact H

/-- A store to the whole rectangle that a slice is. -/
theorem wp_store_slice {s : Shape} {e : EltTy} {m : Memref sig .tc .vmem s e} {r : Rect s} {hr : ∀ a, r.stride a = 1}
    {X w : r.shape.Idx → Elt F e} {hx : (m.access r).Stores Finset.univ} {hm : (Finset.univ : Finset r.shape.Idx) = Finset.univ ∨ ∀ a, r.stride a = 1}
    {α : Type} {Q : α → sProp 𝕄} {p : PUnit → Prog (TpuEff nD τ sig (Elt F) Λ₀ .tc) α} :
    (owns (c : Thread nD τ) (m.slice r hr) fullShare X : sProp 𝕄)
      ⊢ iprop((owns (c : Thread nD τ) (m.slice r hr) fullShare w -∗ Runs c (p ⟨⟩) Q)
          -∗ Runs c (.op (.store m r w Finset.univ hx hm) p) Q) := by
  unfold owns
  iintro ⟨%f, %hf, H⟩ Hk
  iapply (wp_store 𝒱₀ (c : Thread nD τ) none Set.univ (m := m) (r := r) (Mk := Finset.univ) (S := (m.slice r hr).view.set) (f := f)
    (le_refl _)) $$ [H]
  · iexact H
  iintro H
  iapply Hk
  iexists _
  isplitr; rotate_left; · iexact H
  ipureintro; exact View.read_write_univ _ _

/-! ## Computing -/

/-- The taps and the weight a device works with. -/
def operands : sProp 𝕄 :=
  iprop(((c : Thread nD τ).loc cc0_stg0_0 ↦{fullShare} v.k c) ∗ ((c : Thread nD τ).loc cc0_stg1_0 ↦{fullShare} v.w c))

set_option maxHeartbeats 800000 in
/-- The device's contribution to chunk `fetC c i`: wait for the two copies, load, compute by any function that is
    `partialOf`, store. The pair of input buffers is idle again, and the two semaphores are back at zero. -/
theorem wp_compute (i : Fin 8) (k : ℕ)
    {sx : Memref sig .tc .hbm S1024x1024 .f32} {dx : Memref sig .tc .vmem S1024x1024 .f32} {qx : DmaSem sig}
    {sh : Memref sig .tc .hbm S8x1024 .f32} {dh : Memref sig .tc .vmem S8x1024 .f32} {qh : DmaSem sig}
    {sox soh : Fin 3 → ℕ} {off off' : Fin 2 → ℕ}
    {hix : ∀ a, sox a + S1x1024x1024.size a ≤ S2x1024x1024.size a} {hih : ∀ a, soh a + S1x8x1024.size a ≤ S2x8x1024.size a}
    {hio : ∀ a, off a + S1024x1024.size a ≤ S8192x1024.size a} {hio' : ∀ a, off' a + S1024x1024.size a ≤ S8192x1024.size a}
    (P : BitVec 32 → Vec F S1x1024x1024 .f32 → Vec F S1x8x1024 .f32 → Vec F S1x1024 .f32 → Vec F S1x1024 .f32 → Vec F S1x1024 .f32 → Vec F S1x1024 .f32
      → Vec F S1024x1024 .bf16 → FVec F S1024x1024 .bf16)
    (h3 : qx = xS i) (h6 : qh = hS i) (hdx : dx.view.dmaCredit = NX) (hdh : dh.view.dmaCredit = NH)
    (hsx : sox = slotOff (par i)) (hsh : soh = slotOff (par i)) (ho : off = chunkOff (fetC c i)) (ho' : off' = chunkOff (fetC c i))
    (hP : ∀ w L H k3 k0 k1 k2 W, P w L H k3 k0 k1 k2 W = partialOf w
      (shapeCast S1024x1024 L shapeCasts_S1x1024x1024_S1024x1024) (shapeCast S8x1024 H shapeCasts_S1x8x1024_S8x1024) k3 k0 k1 k2 W)
    {w : BitVec 32} {w1 : sx.view.WordExact} {w2 : dx.view.WordExact} {w3 : sh.view.WordExact} {w4 : dh.view.WordExact}
    {l1 : xbM.view.LoadsAt (Rect.unit (s := S2x1024x1024) sox S1x1024x1024.size hix).toLoadRect}
    {l2 : hbM.view.LoadsAt (Rect.unit (s := S2x8x1024) soh S1x8x1024.size hih).toLoadRect}
    {l3 : kM.view.LoadsAt (tapR ![3, 0] inb_S4x1024_S1x1024_3_0).toLoadRect} {l4 : kM.view.LoadsAt (tapR ![0, 0] inb_S4x1024_S1x1024_0_0).toLoadRect}
    {l5 : kM.view.LoadsAt (tapR ![1, 0] inb_S4x1024_S1x1024_1_0).toLoadRect} {l6 : kM.view.LoadsAt (tapR ![2, 0] inb_S4x1024_S1x1024_2_0).toLoadRect}
    {l7 : wM.view.LoadsAt allR.toLoadRect} {l8 : oM.view.LoadsAt (Rect.unit (s := S8192x1024) off S1024x1024.size hio).toLoadRect}
    {w5 : (oM.access (Rect.unit (s := S8192x1024) off' S1024x1024.size hio')).Stores Finset.univ}
    {w6 : (Finset.univ : Finset (Rect.unit (s := S8192x1024) off' S1024x1024.size hio').shape.Idx) = Finset.univ
      ∨ ∀ a, (Rect.unit (s := S8192x1024) off' S1024x1024.size hio').stride a = 1}
    {α : Type} {Q : α → sProp 𝕄} {p : PUnit → Prog (TpuEff nD τ sig (Elt F) Λ₀ .tc) α} :
    iprop(⌜w = rowWord (fetC c i)⌝ ∗ known v κ ∗ flying v c i ∗ Owing (F := F) c k ∗ operands v c ∗ (∃ X, owns (c : Thread nD τ) (outC (fetC c i)) fullShare X))
      ⊢ iprop(((idle v c (par i) ∗ (semVal (xCell c i) 0 ∗ semVal (hCell c i) 0) ∗ Owing (F := F) c k ∗ operands v c
            ∗ owns (c : Thread nD τ) (outC (fetC c i)) fullShare (part v c (fetC c i))) -∗ Runs c (p ⟨⟩) Q)
          -∗ Runs c (.op (.waitDma2 qx sx dx w1 w2) fun _ => .op (.waitDma2 qh sh dh w3 w4) fun _ =>
              .op (.load xbM (Rect.unit (s := S2x1024x1024) sox S1x1024x1024.size hix).toLoadRect l1) fun L =>
              .op (.load hbM (Rect.unit (s := S2x8x1024) soh S1x8x1024.size hih).toLoadRect l2) fun H =>
              .op (.load kM (tapR ![3, 0] inb_S4x1024_S1x1024_3_0).toLoadRect l3) fun k3 =>
              .op (.load kM (tapR ![0, 0] inb_S4x1024_S1x1024_0_0).toLoadRect l4) fun k0 =>
              .op (.load kM (tapR ![1, 0] inb_S4x1024_S1x1024_1_0).toLoadRect l5) fun k1 =>
              .op (.load kM (tapR ![2, 0] inb_S4x1024_S1x1024_2_0).toLoadRect l6) fun k2 =>
              .op (.load wM allR.toLoadRect l7) fun W =>
              .op (.load oM (Rect.unit (s := S8192x1024) off S1024x1024.size hio).toLoadRect l8) fun _ =>
              .op (.store oM (Rect.unit (s := S8192x1024) off' S1024x1024.size hio') (P w L H k3 k0 k1 k2 W) Finset.univ w5 w6) p) Q) := by
  subst h3 h6 hsx hsh ho ho'
  unfold flying operands
  iintro ⟨%hw, #HK, ⟨Hcx, Hch, ⟨Hcrx, Hax⟩, Hcrh, Hah⟩, HO, ⟨Hkp, Hwp⟩, %X, Hout⟩ Hk
  iapply (wp_wait_one v κ c (xS i) k 0 NX (lv_x i).le (fun _ _ => by omega) (mem_x c i) (duties_x v c i) (expect_x v c i) (pay_x v c i false) hdx) $$ [HO Hcrx Hax]
  · isplitr; · iexact HK
    isplitl [HO]; · iexact HO
    isplitl [Hcrx] <;> iassumption
  iintro ⟨HO, Hzx, Hpx⟩
  iapply (wp_wait_one v κ c (hS i) k 0 NH (lv_h i).le (fun _ _ => by omega) (mem_h c i) (duties_h v c i) (expect_h v c i) (pay_h v c i false) hdh) $$ [HO Hcrh Hah]
  · isplitr; · iexact HK
    isplitl [HO]; · iexact HO
    isplitl [Hcrh] <;> iassumption
  iintro ⟨HO, Hzh, Hph⟩
  unfold xPay hPay
  icases Hpx with ⟨Hx, Hmx⟩
  icases Hph with ⟨Hh, Hmh⟩
  have hjx : iprop(((c : Thread nD τ).loc main_v1 ↦[(inC (fetC c i)).view.set]{xq (par i)} v.x c)
      ∗ ((c : Thread nD τ).loc main_v1 ↦[Finset.univ \ (inC (fetC c i)).view.set]{xq (par i)} v.x c))
      ⊢ ((c : Thread nD τ).loc main_v1 ↦{xq (par i)} v.x c : sProp 𝕄) := (pointsTo_split_subset (Finset.subset_univ _)).2
  ihave Hmx := hjx $$ [Hmx Hcx]
  · isplitl [Hmx] <;> iassumption
  have hjh : iprop(((c : Thread nD τ).loc main_v1 ↦[(inH (fetC c i)).view.set]{hq (par i)} v.x c)
      ∗ ((c : Thread nD τ).loc main_v1 ↦[Finset.univ \ (inH (fetC c i)).view.set]{hq (par i)} v.x c))
      ⊢ ((c : Thread nD τ).loc main_v1 ↦{hq (par i)} v.x c : sProp 𝕄) := (pointsTo_split_subset (Finset.subset_univ _)).2
  ihave Hmh := hjh $$ [Hmh Hch]
  · isplitl [Hmh] <;> iassumption
  iapply (wp_load_squeezed c (m := xbM) (r := xSlotR (par i))) $$ [Hx]
  · iexact Hx
  iintro %L ⟨%hL, Hx⟩
  iapply (wp_load_squeezed c (m := hbM) (r := hSlotR (par i))) $$ [Hh]
  · iexact Hh
  iintro %H ⟨%hH, Hh⟩
  iapply (wp_load 𝒱₀ (c : Thread nD τ) none Set.univ (m := kM) (Finset.subset_univ _)) $$ Hkp; iintro Hkp
  iapply (wp_load 𝒱₀ (c : Thread nD τ) none Set.univ (m := kM) (Finset.subset_univ _)) $$ Hkp; iintro Hkp
  iapply (wp_load 𝒱₀ (c : Thread nD τ) none Set.univ (m := kM) (Finset.subset_univ _)) $$ Hkp; iintro Hkp
  iapply (wp_load 𝒱₀ (c : Thread nD τ) none Set.univ (m := kM) (Finset.subset_univ _)) $$ Hkp; iintro Hkp
  iapply (wp_load 𝒱₀ (c : Thread nD τ) none Set.univ (m := wM) (Finset.subset_univ _)) $$ Hwp; iintro Hwp
  iapply (wp_load_slice c (m := oM) (r := chunkR (fetC c i)) (hr := fun _ => rfl)) $$ [Hout]
  · iexact Hout
  iintro Hout
  iapply (wp_store_slice c (m := oM) (r := chunkR (fetC c i)) (hr := fun _ => rfl)) $$ [Hout]
  · iexact Hout
  iintro Hout
  rw [hP, hw, show shapeCast S1024x1024 L shapeCasts_S1x1024x1024_S1024x1024 = _ from hL,
    show shapeCast S8x1024 H shapeCasts_S1x8x1024_S8x1024 = _ from hH]
  iapply Hk
  isplitl [Hx Hh Hmx Hmh]
  · unfold idle
    isplitl [Hx]; · iexists _; iexact Hx
    isplitl [Hh]; · iexists _; iexact Hh
    isplitl [Hmx]; · iexact Hmx
    iexact Hmh
  isplitl [Hzx Hzh]; · isplitl [Hzx] <;> iassumption
  isplitl [HO]; · iexact HO
  isplitl [Hkp Hwp]; · isplitl [Hkp] <;> iassumption
  iexact Hout

/-! ## Transfers between devices -/

/-- A transfer's tickets: the device's place at its two cells, the right to fill its own sending cell and the landing
    cell of its neighbour, and the credit of the transfer that lands on it. -/
def ringTicket (j : Fin 12) : sProp 𝕄 :=
  iprop((atPos ER (sCell c j) 0 ∅ 0 ∗ reached ER (sCell c j) 0 ∗ dutyTok ER (sCell c j) 0 false ∗ dutyTok ER (rCell (tgt c j) j) 0 false)
    ∗ (atPos ER (rCell c j) 0 ∅ 0 ∗ cred (tallyAt (rCell c j) () NC)))
/-- The transfer is under way. -/
def underWay (j : Fin 12) : sProp 𝕄 :=
  iprop((atPos ER (sCell c j) 0 ∅ 0 ∗ cred (tallyAt (sCell c j) () NC)) ∗ (atPos ER (rCell c j) 0 ∅ 0 ∗ cred (tallyAt (rCell c j) () NC)))

/-- Starting transfer `j`, the next one the device owes: it needs the room at the neighbour and what rides along. -/
theorem wp_send (j : Fin 12) (k : ℕ) (hj : nextJ k = j) {n : Dev nD} (hn : n = tgt c j)
    {src : Memref sig .tc .vmem S1024x1024 .bf16} {dst : Memref sig (Dev.tc n : Thread nD τ).2.kind .vmem S1024x1024 .bf16} {qs qr : DmaSem sig}
    (h1 : src = outC (srcC c j)) (h2 : dst = landM (tgt c j) j) (h3 : qs = sS j) (h4 : qr = rS j)
    {hsc : dst.view.ref.isScScratch = false} {w1 : src.view.WordExact} {w2 : dst.view.WordExact}
    {w3 : DmaTarget.Typed .vmem (.dma qr) (.remote (Dev.tc n : Thread nD τ) dst (.dma qs) hsc : DmaTarget nD τ sig (c : Thread nD τ).2 .vmem S1024x1024 .bf16)}
    {α : Type} {Q : α → sProp 𝕄} {p : PUnit → Prog (TpuEff nD τ sig (Elt F) Λ₀ .tc) α} :
    iprop(known v κ ∗ owns (c : Thread nD τ) (outC (srcC c j)) fullShare (carried v c j) ∗ right (F := F) (tgt c j) j ∗ extra (F := F) c j
        ∗ Owing (F := F) c (k + 1) ∗ ringTicket (F := F) c j)
      ⊢ iprop(((Owing (F := F) c k ∗ underWay (F := F) c j) -∗ Runs c (p ⟨⟩) Q)
          -∗ Runs c (.op (.enqueueDma src (.remote (Dev.tc n : Thread nD τ) dst (.dma qs) hsc) (.dma qr) w1 w2 w3) p) Q) := by
  subst hn
  subst h1 h2 h3 h4
  unfold right room ringTicket underWay Owing owns
  iintro ⟨#HK, ⟨%fs, %hfs, Hs⟩, ⟨⟨%Y, %fd, %hfd, Hd⟩, Hrr⟩, Hex, ⟨%W, HO⟩, ⟨Has, Hrs, Hts, Htr⟩, Har, Hcr⟩ Hk
  iapply (Rounds.wp_send_pointsTo_with 𝒱₀ ER (Rd v) (c : Thread nD τ) none (c' := (tgt c j : Thread nD τ)) (src := outC (srcC c j)) (dst := landM (tgt c j) j) (sS := .dma (sS j)) (sem := .dma (rS j))
      (κ₁ := κ (sCell c j)) (κ₂ := κ (rCell (tgt c j) j)) (F := extra (F := F) c j)
      (r₁ := 0) (r₂ := 0) (d₁ := false) (d₂ := false) (fs := fs) (fd := fd) (q := fullShare)
      (by rw [duties_s v c j]; exact Finset.mem_singleton_self _) (by rw [duties_r v (tgt c j) j]; exact Finset.mem_singleton_self _)
      () () NC (landM_credit _ j) (amount_s v c j false) (amount_r v (tgt c j) j false) (owing c k) (by rw [← hj]) (W := W)
      (by
        rw [pay_s]; unfold sPay owns
        iintro H; iexists fs; isplitr; · ipureintro; exact hfs
        iexact H)
      (by
        rw [pay_r]; unfold rPay owns; rw [frm_tgt]
        iintro ⟨H, He⟩
        isplitl [H]
        · iexists _; isplitr; rotate_left; · iexact H
          ipureintro; exact (View.read_write_univ _ _).trans hfs
        · iexact He)) $$ [Hs Hd Hex HO Hrs Hts Hrr Htr]
  · isplitr; · iapply (known_inv v κ (mem_s c j)); iexact HK
    isplitr; · iapply (known_inv v κ (mem_r (tgt c j) j)); iexact HK
    isplitl [Hs]; · iexact Hs
    isplitl [Hd Hex]; · isplitl [Hd] <;> iassumption
    isplitl [HO]; · iexact HO
    isplitl [Hts]; · iexact Hts
    isplitl [Hrs]; · iexact Hrs
    isplitl [Htr]; · iexact Htr
    iexact Hrr
  iintro ⟨Hcs, HO⟩
  iapply Hk
  isplitl [HO]; · iexists W; iexact HO
  isplitl [Has Hcs]; · isplitl [Has] <;> iassumption
  isplitl [Har] <;> iassumption

/-- Waiting until the device's transfer `j` has left and the one landing on it has arrived. -/
theorem wp_landed (j : Fin 12) (k : ℕ) (hk : ∀ i, i < k → 2 + j.val % 6 < 2 + (nextJ i).val % 6)
    {s1 s2 s3 s4 : Memref sig .tc .vmem S1024x1024 .bf16} {qs qr : DmaSem sig} (h3 : qs = sS j) (h4 : qr = rS j)
    (hc2 : s2.view.dmaCredit = NC) (hc4 : s4.view.dmaCredit = NC)
    {w1 : s1.view.WordExact} {w2 : s2.view.WordExact} {w3 : s3.view.WordExact} {w4 : s4.view.WordExact}
    {α : Type} {Q : α → sProp 𝕄} {p : PUnit → Prog (TpuEff nD τ sig (Elt F) Λ₀ .tc) α} :
    iprop(known v κ ∗ Owing (F := F) c k ∗ underWay (F := F) c j)
      ⊢ iprop(((Owing (F := F) c k ∗ (semVal (sCell c j) 0 ∗ semVal (rCell c j) 0)
            ∗ owns (c : Thread nD τ) (outC (srcC c j)) fullShare (carried v c j)
            ∗ owns (c : Thread nD τ) (landM c j) fullShare (carried v (frm c j) j) ∗ extra (F := F) (frm c j) j) -∗ Runs c (p ⟨⟩) Q)
          -∗ Runs c (.op (.waitDma2 qs s1 s2 w1 w2) fun _ => .op (.waitDma2 qr s3 s4 w3 w4) p) Q) := by
  subst h3 h4
  unfold underWay
  iintro ⟨#HK, HO, ⟨Has, Hcs⟩, Har, Hcr⟩ Hk
  iapply (wp_wait_one v κ c (sS j) k 0 NC (lv_s j).le (fun _ _ => by omega) (mem_s c j) (duties_s v c j) (expect_s v c j) (pay_s v c j false) hc2) $$ [HO Hcs Has]
  · isplitr; · iexact HK
    isplitl [HO]; · iexact HO
    isplitl [Hcs] <;> iassumption
  iintro ⟨HO, Hzs, Hps⟩
  iapply (wp_wait_one v κ c (rS j) k _ NC (lv_r j).le hk (mem_r c j) (duties_r v c j) (expect_r v c j) (pay_r v c j false) hc4) $$ [HO Hcr Har]
  · isplitr; · iexact HK
    isplitl [HO]; · iexact HO
    isplitl [Hcr] <;> iassumption
  iintro ⟨HO, Hzr, Hpr⟩
  unfold sPay rPay
  icases Hpr with ⟨Hpr, Hex⟩
  iapply Hk
  isplitl [HO]; · iexact HO
  isplitl [Hzs Hzr]; · isplitl [Hzs] <;> iassumption
  isplitl [Hps]; · iexact Hps
  isplitl [Hpr] <;> iassumption

/-- Adding what landed in buffer `(d, s)` to chunk `r`, by any function that is `acc`. -/
theorem wp_add (r : Fin 8) (d s : Fin 2) {X Y : FVec F S1024x1024 .bf16}
    {off off' off'' : Fin 2 → ℕ} {so : Fin 4 → ℕ}
    {hio : ∀ a, off a + S1024x1024.size a ≤ S8192x1024.size a} {hio' : ∀ a, off' a + S1024x1024.size a ≤ S8192x1024.size a}
    {hio'' : ∀ a, off'' a + S1024x1024.size a ≤ S8192x1024.size a} {his : ∀ a, so a + S1x1x1024x1024.size a ≤ S2x2x1024x1024.size a}
    (P : Vec F S1024x1024 .bf16 → Vec F S1x1x1024x1024 .bf16 → FVec F S1024x1024 .bf16)
    (ho : off = chunkOff r) (ho' : off' = chunkOff r) (ho'' : off'' = chunkOff r) (hs : so = commOff d s)
    (hP : ∀ o l, P o l = acc o (shapeCast S1024x1024 l shapeCasts_S1x1x1024x1024_S1024x1024))
    {l1 : oM.view.LoadsAt (Rect.unit (s := S8192x1024) off S1024x1024.size hio).toLoadRect}
    {l2 : cbM.view.LoadsAt (Rect.unit (s := S2x2x1024x1024) so S1x1x1024x1024.size his).toLoadRect}
    {l3 : oM.view.LoadsAt (Rect.unit (s := S8192x1024) off' S1024x1024.size hio').toLoadRect}
    {w5 : (oM.access (Rect.unit (s := S8192x1024) off'' S1024x1024.size hio'')).Stores Finset.univ}
    {w6 : (Finset.univ : Finset (Rect.unit (s := S8192x1024) off'' S1024x1024.size hio'').shape.Idx) = Finset.univ
      ∨ ∀ a, (Rect.unit (s := S8192x1024) off'' S1024x1024.size hio'').stride a = 1}
    {α : Type} {Q : α → sProp 𝕄} {p : PUnit → Prog (TpuEff nD τ sig (Elt F) Λ₀ .tc) α} :
    iprop(owns (c : Thread nD τ) (outC r) fullShare X ∗ owns (c : Thread nD τ) (commC d s) fullShare Y)
      ⊢ (iprop(((owns (c : Thread nD τ) (outC r) fullShare (acc X Y) ∗ owns (c : Thread nD τ) (commC d s) fullShare Y) -∗ Runs c (p ⟨⟩) Q)
          -∗ Runs c (.op (.load oM (Rect.unit (s := S8192x1024) off S1024x1024.size hio).toLoadRect l1) fun o =>
              .op (.load cbM (Rect.unit (s := S2x2x1024x1024) so S1x1x1024x1024.size his).toLoadRect l2) fun l =>
              .op (.load oM (Rect.unit (s := S8192x1024) off' S1024x1024.size hio').toLoadRect l3) fun _ =>
              .op (.store oM (Rect.unit (s := S8192x1024) off'' S1024x1024.size hio'') (P o l) Finset.univ w5 w6) p) Q) : sProp 𝕄) := by
  subst ho ho' ho'' hs
  iintro ⟨Hout, Hl⟩ Hk
  iapply (wp_load_slice c (m := oM) (r := chunkR r) (hr := fun _ => rfl)) $$ [Hout]
  · iexact Hout
  iintro Hout
  iapply (wp_load_squeezed c (m := cbM) (r := commR d s)) $$ [Hl]
  · iexact Hl
  iintro %l ⟨%hl, Hl⟩
  iapply (wp_load_slice c (m := oM) (r := chunkR r) (hr := fun _ => rfl)) $$ [Hout]
  · iexact Hout
  iintro Hout
  iapply (wp_store_slice c (m := oM) (r := chunkR r) (hr := fun _ => rfl)) $$ [Hout]
  · iexact Hout
  iintro Hout
  rw [hP, show shapeCast S1024x1024 l shapeCasts_S1x1x1024x1024_S1024x1024 = _ from hl]
  iapply Hk
  isplitl [Hout] <;> iassumption

end Cert.Conv

end
-- ==== Proof.Body.lean ====
/-
The kernel's body, run once at a device `c` of the ring: the barrier, the eight fetches
and computations, the twelve transfers.
-/
module

public import proofs.«01_k».proof.Proof.Rules
public import proofs.«01_k».proof.Proof.Gen.KernelIdeal.Skeleton

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (v : Vals F) (κ : GSem nD τ sig → ℕ) (c : Dev nD)

/-! ## Which chunk a slice is -/

theorem outC_of {off : Fin 2 → ℕ} {r : Fin 8} {h : ∀ a, off a + S1024x1024.size a ≤ S8192x1024.size a} (e : off = chunkOff r) :
    oM.slice (Rect.unit (s := S8192x1024) off S1024x1024.size h) (fun _ => rfl) = outC r := by subst e; rfl
theorem inC_of {off : Fin 2 → ℕ} {r : Fin 8} {h : ∀ a, off a + S1024x1024.size a ≤ S8192x1024.size a} (e : off = chunkOff r) :
    xM.slice (Rect.unit (s := S8192x1024) off S1024x1024.size h) (fun _ => rfl) = inC r := by subst e; rfl
theorem inH_of {off : Fin 2 → ℕ} {r : Fin 8} {h : ∀ a, off a + S8x1024.size a ≤ S8192x1024.size a} (e : off = haloOff r) :
    xM.slice (Rect.unit (s := S8192x1024) off S8x1024.size h) (fun _ => rfl) = inH r := by subst e; rfl
/-- A finished chunk lands at the neighbour where it lies at home. -/
theorem land9 (r : Fin 3) : k0_off9 c (BitVec.ofNat 32 r.val) = chunkOff (chunkA (nxt c) r.val) := by revert c r; decide +kernel
theorem land10 (r : Fin 3) : k0_off10 c (BitVec.ofNat 32 r.val) = chunkOff (chunkB (prv c) r.val) := by revert c r; decide +kernel

/-! ## Small facts the run uses -/

/-- The credit of a copy is its shape's. -/
theorem c_any (m : Memref sig .tc .vmem S1024x1024 .bf16) : m.view.dmaCredit = NC := rfl
theorem x_any (m : Memref sig .tc .vmem S1024x1024 .f32) : m.view.dmaCredit = NX := rfl
theorem h_any (m : Memref sig .tc .vmem S8x1024 .f32) : m.view.dmaCredit = NH := rfl

/-- A device's own landing cells are at their start. -/
def marks : sProp 𝕄 := bigSep Finset.univ fun j : Fin 12 => reached ER (rCell c j) 0
instance marks_persistent : BI.Persistent (marks (F := F) c) := by unfold marks; infer_instance

/-- A free landing place is a right for the neighbour to use it. -/
theorem give (j : Fin 12) : iprop(marks (F := F) c ∗ room (F := F) c j) ⊢ right (F := F) c j := by
  have h : marks (F := F) c ⊢ reached ER (rCell c j) 0 := bigSep_elim (Finset.mem_univ j)
  unfold right
  iintro ⟨#HM, HR⟩
  isplitl [HR]; · iexact HR
  iapply h; iexact HM

theorem extra_1 : extra (F := F) c 1 = iprop(right (F := F) c 8 ∗ right (F := F) c 9) := rfl
theorem extra_2 : extra (F := F) c 2 = iprop(right (F := F) c 10) := rfl
theorem extra_3 : extra (F := F) c 3 = iprop(right (F := F) c 11) := rfl
theorem extra_7 : extra (F := F) c 7 = iprop(right (F := F) c 2 ∗ right (F := F) c 3) := rfl
theorem extra_8 : extra (F := F) c 8 = iprop(right (F := F) c 4) := rfl
theorem extra_9 : extra (F := F) c 9 = iprop(right (F := F) c 5) := rfl
/-- Nothing rides along with the other transfers. -/
theorem extra_none (j : Fin 12) (h : j ∉ ({1, 2, 3, 7, 8, 9} : Finset (Fin 12))) : extra (F := F) c j = iprop(emp) := by
  simp only [Finset.mem_insert, Finset.mem_singleton, not_or] at h
  unfold extra
  rw [if_neg h.1, if_neg h.2.1, if_neg h.2.2.1, if_neg h.2.2.2.1, if_neg h.2.2.2.2.1, if_neg h.2.2.2.2.2]

/-- The same chunk under another name, the same values under another name. -/
theorem owns_conv {r r' : Fin 8} {X X' : FVec F S1024x1024 .bf16} (h : r = r') (hX : X = X') :
    (owns (c : Thread nD τ) (outC r) fullShare X : sProp 𝕄) ⊢ owns (c : Thread nD τ) (outC r') fullShare X' := by
  subst h hX; exact BI.Entails.refl _

theorem back_zero : back c 0 = c := by revert c; decide
theorem fwd_zero : fwd c 0 = c := by revert c; decide
theorem back_prv (h : Fin 2) : back (prv c) h.val = back c (h.val + 1) := by revert c h; decide
theorem fwd_nxt (h : Fin 2) : fwd (nxt c) h.val = fwd c (h.val + 1) := by revert c h; decide
theorem relay_chunk_A (h : Fin 2) : chunkA c h.val = chunkA c (h.val + 4) := by revert c h; decide
theorem relay_chunk_B (h : Fin 2) : chunkB c h.val = chunkB c (h.val + 4) := by revert c h; decide

/-- The last addition finishes a chunk: what is sent on from there. -/
theorem last_A : acc (part v c (chunkA c 3)) (carried v (frm c 2) 2) = carried v c 3 := by
  show sumA v 3 c = sumA v 3 (back c 0); rw [back_zero]
theorem last_B : acc (part v c (chunkB c 3)) (carried v (frm c 8) 8) = carried v c 9 := by
  show sumB v 3 c = sumB v 3 (fwd c 0); rw [fwd_zero]
/-- A finished chunk that has landed is the next one to send on. -/
theorem relay_A (h : Fin 2) : sumA v 3 (back (prv c) h.val) = sumA v 3 (back c (h.val + 1)) := by rw [back_prv]
theorem relay_B (h : Fin 2) : sumB v 3 (fwd (nxt c) h.val) = sumB v 3 (fwd c (h.val + 1)) := by rw [fwd_nxt]

theorem own_chunk_4 : srcC c 4 = fetC c 0 := by revert c; decide
theorem own_chunk_5 : srcC c 5 = fetC c 2 := by revert c; decide
theorem own_chunk_10 : srcC c 10 = fetC c 1 := by revert c; decide
theorem own_chunk_11 : srcC c 11 = fetC c 3 := by revert c; decide

theorem finished_A (d e : Dev nD) (h : ℕ) (he : e = ⟨((d.val + 3 * h) % 4 + 3) % 4, Nat.mod_lt _ (by decide)⟩) :
    sumA v 3 e = finished v (chunkA d h) := by
  subst he; unfold finished; rw [if_pos (show (chunkA d h).val < 4 from Nat.mod_lt _ (by decide))]; rfl
theorem finished_B (d e : Dev nD) (h : ℕ) (he : e = ⟨(4 + (d.val + h) % 4 + 1) % 4, Nat.mod_lt _ (by decide)⟩) :
    sumB v 3 e = finished v (chunkB d h) := by
  subst he; unfold finished; rw [if_neg (show ¬ (chunkB d h).val < 4 from by unfold chunkB; dsimp only; omega)]; rfl

/-- What the device holds of each chunk at the end is the finished chunk. -/
theorem own_3 : carried v c 3 = finished v (fetC c 6) := finished_A v c (back c 0) 3 (by revert c; decide)
theorem own_4 : carried v c 4 = finished v (fetC c 0) := finished_A v c (back c 1) 0 (by revert c; decide)
theorem own_5 : carried v c 5 = finished v (fetC c 2) := finished_A v c (back c 2) 1 (by revert c; decide)
theorem got_5 : carried v (frm c 5) 5 = finished v (fetC c 4) := finished_A v c (back (prv c) 2) 2 (by revert c; decide)
theorem own_9 : carried v c 9 = finished v (fetC c 7) := finished_B v c (fwd c 0) 3 (by revert c; decide)
theorem own_10 : carried v c 10 = finished v (fetC c 1) := finished_B v c (fwd c 1) 0 (by revert c; decide)
theorem own_11 : carried v c 11 = finished v (fetC c 3) := finished_B v c (fwd c 2) 1 (by revert c; decide)
theorem got_11 : carried v (frm c 11) 11 = finished v (fetC c 5) := finished_B v c (fwd (nxt c) 2) 2 (by revert c; decide)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide), bigSep_insert (by decide), bigSep_insert (by decide), bigSep_insert (by decide), bigSep_insert (by decide), bigSep_insert (by decide), bigSep_singleton]; rfl

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]; rfl

/-! ## The run -/

/-- A run that is over. -/
theorem runs_ret (Q : PUnit → sProp 𝕄) : Q ⟨⟩ ⊢ Runs c (.ret ⟨⟩) Q := by
  unfold Runs; rw [wp_ret]; iintro H; imodintro; iexact H

/-- What a device starts with: its place in the barrier, its buffers, its tickets. -/
def begun : sProp 𝕄 :=
  iprop((dutyTok ER (barCell (prv c)) 0 true ∗ reached ER (barCell (prv c)) 0)
    ∗ (dutyTok ER (barCell (nxt c)) 0 false ∗ reached ER (barCell (nxt c)) 0)
    ∗ atPos ER (barCell c) 0 ∅ 0 ∗ cred (tallyAt (barCell c) () 2)
    ∗ idle v c 0 ∗ idle v c 1 ∗ operands v c
    ∗ (bigSep Finset.univ fun i : Fin 8 => iprop(∃ X, owns (c : Thread nD τ) (outC (fetC c i)) fullShare X))
    ∗ (∃ X, owns (c : Thread nD τ) (commC 0 0) fullShare X) ∗ (∃ X, owns (c : Thread nD τ) (commC 0 1) fullShare X)
    ∗ (∃ X, owns (c : Thread nD τ) (commC 1 0) fullShare X) ∗ (∃ X, owns (c : Thread nD τ) (commC 1 1) fullShare X)
    ∗ (bigSep Finset.univ fun i : Fin 8 => ticket (F := F) c i) ∗ (bigSep Finset.univ fun j : Fin 12 => ringTicket (F := F) c j))

/-- What it ends with: nothing owed, every semaphore at zero, the buffers, and all eight chunks finished. -/
def ended : sProp 𝕄 :=
  iprop(Owing (F := F) c 0 ∗ semVal (barCell c) 0
    ∗ (bigSep Finset.univ fun i : Fin 8 => iprop(semVal (xCell c i) 0 ∗ semVal (hCell c i) 0))
    ∗ (bigSep Finset.univ fun j : Fin 12 => iprop(semVal (sCell c j) 0 ∗ semVal (rCell c j) 0))
    ∗ idle v c 0 ∗ idle v c 1 ∗ operands v c
    ∗ (bigSep Finset.univ fun i : Fin 8 => owns (c : Thread nD τ) (outC (fetC c i)) fullShare (finished v (fetC c i)))
    ∗ (∃ X, owns (c : Thread nD τ) (commC 0 0) fullShare X) ∗ (∃ X, owns (c : Thread nD τ) (commC 0 1) fullShare X)
    ∗ (∃ X, owns (c : Thread nD τ) (commC 1 0) fullShare X) ∗ (∃ X, owns (c : Thread nD τ) (commC 1 1) fullShare X))

set_option maxRecDepth 65536 in
set_option maxHeartbeats 4000000 in
/-- The body runs from what the device starts with to what it ends with. -/
theorem run_body (Q : PUnit → sProp 𝕄) {W : Waits sig Unit} :
    iprop(known v κ ∗ marks (F := F) c ∗ owes (c : Thread nD τ) (owing0 c) W ∗ begun v c ∗ (ended v c -∗ Q ⟨⟩))
     ⊢ Runs c (cc0__body (F := F) xM (Memref.isWhole_whole _) kM (Memref.isWhole_whole _) wM (Memref.isWhole_whole _) oM (Memref.isWhole_whole _)
            xbM (Memref.isWhole_whole _) hbM (Memref.isWhole_whole _) cbM (Memref.isWhole_whole _) cc0_scratch3 cc0_scratch4 cc0_scratch5 cc0_scratch6) Q := by
  simp only [cc0__body_eq_skeleton]; unfold cc0__body_skel
  simp only [k0_part37_eq_skeleton]; unfold k0_part37_skel
  unfold begun
  rw [bigSep_fin8, bigSep_fin8, bigSep_fin12]
  iintro ⟨#HK, #HM, HO, ⟨Hb1, Hb2, Hb3, Hb4, Hi0, Hi1, Hop, ⟨Ho0, Ho1, Ho2, Ho3, Ho4, Ho5, Ho6, Ho7⟩, Hc0, Hc1, Hc2, Hc3, ⟨Ht0, Ht1, Ht2, Ht3, Ht4, Ht5, Ht6, Ht7⟩, ⟨Hq0, Hq1, Hq2, Hq3, Hq4, Hq5, Hq6, Hq7, Hq8, Hq9, Hq10, Hq11⟩⟩, HQ⟩
  simp only [k0_part1_eq_skeleton]; unfold k0_part1_skel
  simp only [semSignalWord, semWaitWord, Prog.lift, Prog.bind_op, Prog.bind_ret, Prog.pure_eq_ret, Prog.bind_assoc, wp_deviceId]
  iapply (wp_barrier v κ c (W := W) (dev1_eq c) (dev2_eq c) rfl) $$ [HO Hb1 Hb2 Hb3 Hb4 Hc0 Hc1 Hc2 Hc3]
  · isplitr; · iexact HK
    isplitl [HO]; · iexact HO
    unfold barrierKit
    isplitl [Hb1]; · iexact Hb1
    isplitl [Hb2]; · iexact Hb2
    isplitl [Hc0 Hc1]
    · isplitl [Hc0]
      · iapply (give (F := F) c 0); isplitr; · iexact HM
        unfold room
        iexact Hc0
      · iapply (give (F := F) c 1); isplitr; · iexact HM
        unfold room
        iexact Hc1
    isplitl [Hc2 Hc3]
    · isplitl [Hc2]
      · iapply (give (F := F) c 6); isplitr; · iexact HM
        unfold room
        iexact Hc2
      · iapply (give (F := F) c 7); isplitr; · iexact HM
        unfold room
        iexact Hc3
    isplitl [Hb3]; · iexact Hb3
    iexact Hb4
  iintro ⟨HO, Hzb, ⟨Hr0, Hr1⟩, Hr6, Hr7⟩
  simp only [k0_part2_eq_skeleton]; unfold k0_part2_skel
  simp only [semSignalWord, semWaitWord, Prog.lift, Prog.bind_op, Prog.bind_ret, Prog.pure_eq_ret, Prog.bind_assoc, wp_deviceId]
  simp only [k0_part3_eq_skeleton]; unfold k0_part3_skel
  simp only [semSignalWord, semWaitWord, Prog.lift, Prog.bind_op, Prog.bind_ret, Prog.pure_eq_ret, Prog.bind_assoc, wp_deviceId]
  simp only [k0_part4_eq_skeleton]; unfold k0_part4_skel
  simp only [semSignalWord, semWaitWord, Prog.lift, Prog.bind_op, Prog.bind_ret, Prog.pure_eq_ret, Prog.bind_assoc, wp_deviceId]
  simp only [k0_part5_eq_skeleton]; unfold k0_part5_skel
  simp only [semSignalWord, semWaitWord, Prog.lift, Prog.bind_op, Prog.bind_ret, Prog.pure_eq_ret, Prog.bind_assoc, wp_deviceId]
  -- fetch 0
  iapply (wp_fetch v κ c 0 (inC_of (off1_eq c 0)) rfl rfl (inH_of (off2_eq c 0)) rfl rfl) $$ [Hi0 Ht0]
  · isplitr; · iexact HK
    isplitl [Hi0]; · iexact Hi0
    iexact Ht0
  iintro Hf0
  -- fetch 1
  iapply (wp_fetch v κ c 1 (inC_of (off3_eq c 0)) rfl rfl (inH_of (off4_eq c 0)) rfl rfl) $$ [Hi1 Ht1]
  · isplitr; · iexact HK
    isplitl [Hi1]; · iexact Hi1
    iexact Ht1
  iintro Hf1
  simp only [k0_part6_eq_skeleton]; unfold k0_part6_skel
  simp only [semSignalWord, semWaitWord, Prog.lift, Prog.bind_op, Prog.bind_ret, Prog.pure_eq_ret, Prog.bind_assoc, wp_deviceId]
  simp only [k0_part7_eq_skeleton]; unfold k0_part7_skel
  simp only [semSignalWord, semWaitWord, Prog.lift, Prog.bind_op, Prog.bind_ret, Prog.pure_eq_ret, Prog.bind_assoc, wp_deviceId]
  -- contribution 0
  iapply (wp_compute v κ c 0 12 (fun w L H k3 k0 k1 k2 W => k0_pay4 (k0_pay2 w L H k3 k0 k1) (k0_pay3 w L H k2) W) rfl rfl (x_any _) (h_any _) rfl rfl
    (off5_eq c 0) (off5_eq c 0) (fun _ _ _ _ _ _ _ _ => rfl)) $$ [Hf0 HO Hop Ho0]
  · isplitr; · ipureintro; revert c; decide +kernel
    isplitr; · iexact HK
    isplitl [Hf0]; · iexact Hf0
    isplitl [HO]; · iexact HO
    isplitl [Hop]; · iexact Hop
    iexact Ho0
  iintro ⟨Hi0, Hz0, HO, Hop, Ho0⟩
  -- fetch 2
  iapply (wp_fetch v κ c 2 (inC_of (off1_eq c 1)) rfl rfl (inH_of (off2_eq c 1)) rfl rfl) $$ [Hi0 Ht2]
  · isplitr; · iexact HK
    isplitl [Hi0]; · iexact Hi0
    iexact Ht2
  iintro Hf2
  simp only [k0_part8_eq_skeleton]; unfold k0_part8_skel
  simp only [semSignalWord, semWaitWord, Prog.lift, Prog.bind_op, Prog.bind_ret, Prog.pure_eq_ret, Prog.bind_assoc, wp_deviceId]
  simp only [k0_part9_eq_skeleton]; unfold k0_part9_skel
  simp only [semSignalWord, semWaitWord, Prog.lift, Prog.bind_op, Prog.bind_ret, Prog.pure_eq_ret, Prog.bind_assoc, wp_deviceId]
  -- contribution 1
  iapply (wp_compute v κ c 1 12 (fun w L H k3 k0 k1 k2 W => k0_pay6 (k0_pay5 w L H k3 k0 k1 k2) W) rfl rfl (x_any _) (h_any _) rfl rfl
    (off6_eq c 0) (off6_eq c 0) (fun _ _ _ _ _ _ _ _ => rfl)) $$ [Hf1 HO Hop Ho1]
  · isplitr; · ipureintro; revert c; decide +kernel
    isplitr; · iexact HK
    isplitl [Hf1]; · iexact Hf1
    isplitl [HO]; · iexact HO
    isplitl [Hop]; · iexact Hop
    iexact Ho1
  iintro ⟨Hi1, Hz1, HO, Hop, Ho1⟩
  simp only [k0_part10_eq_skeleton]; unfold k0_part10_skel
  simp only [semSignalWord, semWaitWord, Prog.lift, Prog.bind_op, Prog.bind_ret, Prog.pure_eq_ret, Prog.bind_assoc, wp_deviceId]
  -- fetch 3
  iapply (wp_fetch v κ c 3 (inC_of (off3_eq c 1)) rfl rfl (inH_of (off4_eq c 1)) rfl rfl) $$ [Hi1 Ht3]
  · isplitr; · iexact HK
    isplitl [Hi1]; · iexact Hi1
    iexact Ht3
  iintro Hf3
  -- transfer 0 starts
  iapply (wp_send v κ c 0 11 rfl (dev3_eq c) (outC_of (off1_eq c 0)) rfl rfl rfl) $$ [Ho0 Hr0 HO Hq0 ]
  · isplitr; · iexact HK
    isplitl [Ho0]; · iexact Ho0
    isplitl [Hr0]; · iexact Hr0
    isplitr; · iapply (Entails.of_eq (extra_none (F := F) c 0 (by decide)).symm); iempintro
    isplitl [HO]; · iexact HO
    iexact Hq0
  iintro ⟨HO, Hu0⟩
  -- transfer 6 starts
  iapply (wp_send v κ c 6 10 rfl (dev4_eq c) (outC_of (off3_eq c 0)) rfl rfl rfl) $$ [Ho1 Hr6 HO Hq6 ]
  · isplitr; · iexact HK
    isplitl [Ho1]; · iexact Ho1
    isplitl [Hr6]; · iexact Hr6
    isplitr; · iapply (Entails.of_eq (extra_none (F := F) c 6 (by decide)).symm); iempintro
    isplitl [HO]; · iexact HO
    iexact Hq6
  iintro ⟨HO, Hu6⟩
  simp only [k0_part11_eq_skeleton]; unfold k0_part11_skel
  simp only [semSignalWord, semWaitWord, Prog.lift, Prog.bind_op, Prog.bind_ret, Prog.pure_eq_ret, Prog.bind_assoc, wp_deviceId]
  simp only [k0_part12_eq_skeleton]; unfold k0_part12_skel
  simp only [semSignalWord, semWaitWord, Prog.lift, Prog.bind_op, Prog.bind_ret, Prog.pure_eq_ret, Prog.bind_assoc, wp_deviceId]
  -- contribution 2
  iapply (wp_compute v κ c 2 10 (fun w L H k3 k0 k1 k2 W => k0_pay11 (k0_pay7 w L H) (k0_pay8 w L H k3 k0) (k0_pay9 w L H) (k0_pay10 k1) k2 W) rfl rfl (x_any _) (h_any _) rfl rfl
    (off5_eq c 1) (off5_eq c 1) (fun _ _ _ _ _ _ _ _ => rfl)) $$ [Hf2 HO Hop Ho2]
  · isplitr; · ipureintro; revert c; decide +kernel
    isplitr; · iexact HK
    isplitl [Hf2]; · iexact Hf2
    isplitl [HO]; · iexact HO
    isplitl [Hop]; · iexact Hop
    iexact Ho2
  iintro ⟨Hi0, Hz2, HO, Hop, Ho2⟩
  -- fetch 4
  iapply (wp_fetch v κ c 4 (inC_of (off1_eq c 2)) rfl rfl (inH_of (off2_eq c 2)) rfl rfl) $$ [Hi0 Ht4]
  · isplitr; · iexact HK
    isplitl [Hi0]; · iexact Hi0
    iexact Ht4
  iintro Hf4
  simp only [k0_part13_eq_skeleton]; unfold k0_part13_skel
  simp only [semSignalWord, semWaitWord, Prog.lift, Prog.bind_op, Prog.bind_ret, Prog.pure_eq_ret, Prog.bind_assoc, wp_deviceId]
  simp only [k0_part14_eq_skeleton]; unfold k0_part14_skel
  simp only [semSignalWord, semWaitWord, Prog.lift, Prog.bind_op, Prog.bind_ret, Prog.pure_eq_ret, Prog.bind_assoc, wp_deviceId]
  -- contribution 3
  iapply (wp_compute v κ c 3 10 (fun w L H k3 k0 k1 k2 W => k0_pay15 (k0_pay13 w L H k3 k0 k1) (k0_pay14 w L H) k2 W) rfl rfl (x_any _) (h_any _) rfl rfl
    (off6_eq c 1) (off6_eq c 1) (fun _ _ _ _ _ _ _ _ => rfl)) $$ [Hf3 HO Hop Ho3]
  · isplitr; · ipureintro; revert c; decide +kernel
    isplitr; · iexact HK
    isplitl [Hf3]; · iexact Hf3
    isplitl [HO]; · iexact HO
    isplitl [Hop]; · iexact Hop
    iexact Ho3
  iintro ⟨Hi1, Hz3, HO, Hop, Ho3⟩
  -- fetch 5
  iapply (wp_fetch v κ c 5 (inC_of (off3_eq c 2)) rfl rfl (inH_of (off4_eq c 2)) rfl rfl) $$ [Hi1 Ht5]
  · isplitr; · iexact HK
    isplitl [Hi1]; · iexact Hi1
    iexact Ht5
  iintro Hf5
  simp only [k0_part15_eq_skeleton]; unfold k0_part15_skel
  simp only [semSignalWord, semWaitWord, Prog.lift, Prog.bind_op, Prog.bind_ret, Prog.pure_eq_ret, Prog.bind_assoc, wp_deviceId]
  -- transfer 0 is over
  iapply (wp_landed v κ c 0 10 (by decide) rfl rfl (c_any _) (c_any _)) $$ [HO Hu0]
  · isplitr; · iexact HK
    isplitl [HO]; · iexact HO
    iexact Hu0
  iintro ⟨HO, Hy0, Hs0, Hl0, He0⟩
  -- chunk 2 takes what transfer 0 brought
  iapply (wp_add c (chunkA c 1) 0 0 (fun o l => k0_pay16 o l) (off7_eq c 0) (off7_eq c 0) (off7_eq c 0) rfl (fun _ _ => rfl)) $$ [Ho2 Hl0]
  · isplitl [Ho2]; · iexact Ho2
    iexact Hl0
  iintro ⟨Ho2, Hl0⟩
  simp only [k0_part16_eq_skeleton]; unfold k0_part16_skel
  simp only [semSignalWord, semWaitWord, Prog.lift, Prog.bind_op, Prog.bind_ret, Prog.pure_eq_ret, Prog.bind_assoc, wp_deviceId]
  simp only [k0_part17_eq_skeleton]; unfold k0_part17_skel
  simp only [semSignalWord, semWaitWord, Prog.lift, Prog.bind_op, Prog.bind_ret, Prog.pure_eq_ret, Prog.bind_assoc, wp_deviceId]
  -- transfer 6 is over
  iapply (wp_landed v κ c 6 10 (by decide) rfl rfl (c_any _) (c_any _)) $$ [HO Hu6]
  · isplitr; · iexact HK
    isplitl [HO]; · iexact HO
    iexact Hu6
  iintro ⟨HO, Hy6, Hs6, Hl6, He6⟩
  -- chunk 3 takes what transfer 6 brought
  iapply (wp_add c (chunkB c 1) 1 0 (fun o l => k0_pay18 (k0_pay17 o) l) (off8_eq c 0) (off8_eq c 0) (off8_eq c 0) rfl (fun _ _ => rfl)) $$ [Ho3 Hl6]
  · isplitl [Ho3]; · iexact Ho3
    iexact Hl6
  iintro ⟨Ho3, Hl6⟩
  simp only [k0_part18_eq_skeleton]; unfold k0_part18_skel
  simp only [semSignalWord, semWaitWord, Prog.lift, Prog.bind_op, Prog.bind_ret, Prog.pure_eq_ret, Prog.bind_assoc, wp_deviceId]
  -- transfer 1 starts
  ihave Hg8 := (give (F := F) c 8) $$ [Hl6]
  · isplitr; · iexact HM
    unfold room; iexists _; iexact Hl6
  ihave Hg9 := (give (F := F) c 9) $$ [Hs6]
  · isplitr; · iexact HM
    unfold room; iexists _; iexact Hs6
  iapply (wp_send v κ c 1 9 rfl (dev5_eq c) (outC_of (off1_eq c 1)) rfl rfl rfl) $$ [Ho2 Hr1 HO Hq1 Hg8 Hg9]
  · isplitr; · iexact HK
    isplitl [Ho2]; · iexact Ho2
    isplitl [Hr1]; · iexact Hr1
    isplitl [Hg8 Hg9]
    · iapply (Entails.of_eq (extra_1 (F := F) c).symm)
      isplitl [Hg8]; · iexact Hg8
      iexact Hg9
    isplitl [HO]; · iexact HO
    iexact Hq1
  iintro ⟨HO, Hu1⟩
  -- transfer 7 starts
  ihave Hg2 := (give (F := F) c 2) $$ [Hl0]
  · isplitr; · iexact HM
    unfold room; iexists _; iexact Hl0
  ihave Hg3 := (give (F := F) c 3) $$ [Hs0]
  · isplitr; · iexact HM
    unfold room; iexists _; iexact Hs0
  iapply (wp_send v κ c 7 8 rfl (dev6_eq c) (outC_of (off3_eq c 1)) rfl rfl rfl) $$ [Ho3 Hr7 HO Hq7 Hg2 Hg3]
  · isplitr; · iexact HK
    isplitl [Ho3]; · iexact Ho3
    isplitl [Hr7]; · iexact Hr7
    isplitl [Hg2 Hg3]
    · iapply (Entails.of_eq (extra_7 (F := F) c).symm)
      isplitl [Hg2]; · iexact Hg2
      iexact Hg3
    isplitl [HO]; · iexact HO
    iexact Hq7
  iintro ⟨HO, Hu7⟩
  simp only [k0_part19_eq_skeleton]; unfold k0_part19_skel
  simp only [semSignalWord, semWaitWord, Prog.lift, Prog.bind_op, Prog.bind_ret, Prog.pure_eq_ret, Prog.bind_assoc, wp_deviceId]
  -- contribution 4
  iapply (wp_compute v κ c 4 8 (fun w L H k3 k0 k1 k2 W => k0_pay20 w (k0_pay19 L) H k3 k0 k1 k2 W) rfl rfl (x_any _) (h_any _) rfl rfl
    (off5_eq c 2) (off5_eq c 2) (fun _ _ _ _ _ _ _ _ => rfl)) $$ [Hf4 HO Hop Ho4]
  · isplitr; · ipureintro; revert c; decide +kernel
    isplitr; · iexact HK
    isplitl [Hf4]; · iexact Hf4
    isplitl [HO]; · iexact HO
    isplitl [Hop]; · iexact Hop
    iexact Ho4
  iintro ⟨Hi0, Hz4, HO, Hop, Ho4⟩
  simp only [k0_part20_eq_skeleton]; unfold k0_part20_skel
  simp only [semSignalWord, semWaitWord, Prog.lift, Prog.bind_op, Prog.bind_ret, Prog.pure_eq_ret, Prog.bind_assoc, wp_deviceId]
  -- fetch 6
  iapply (wp_fetch v κ c 6 (inC_of (off1_eq c 3)) rfl rfl (inH_of (off2_eq c 3)) rfl rfl) $$ [Hi0 Ht6]
  · isplitr; · iexact HK
    isplitl [Hi0]; · iexact Hi0
    iexact Ht6
  iintro Hf6
  simp only [k0_part21_eq_skeleton]; unfold k0_part21_skel
  simp only [semSignalWord, semWaitWord, Prog.lift, Prog.bind_op, Prog.bind_ret, Prog.pure_eq_ret, Prog.bind_assoc, wp_deviceId]
  -- contribution 5
  iapply (wp_compute v κ c 5 8 (fun w L H k3 k0 k1 k2 W => k0_pay23 (k0_pay21 L) (k0_pay22 H) (Scalar.cmpi .eq (Scalar.remsi w 4096#32) 0#32) k3 k0 k1 k2 W) rfl rfl (x_any _) (h_any _) rfl rfl
    (off6_eq c 2) (off6_eq c 2) (fun _ _ _ _ _ _ _ _ => rfl)) $$ [Hf5 HO Hop Ho5]
  · isplitr; · ipureintro; revert c; decide +kernel
    isplitr; · iexact HK
    isplitl [Hf5]; · iexact Hf5
    isplitl [HO]; · iexact HO
    isplitl [Hop]; · iexact Hop
    iexact Ho5
  iintro ⟨Hi1, Hz5, HO, Hop, Ho5⟩
  simp only [k0_part22_eq_skeleton]; unfold k0_part22_skel
  simp only [semSignalWord, semWaitWord, Prog.lift, Prog.bind_op, Prog.bind_ret, Prog.pure_eq_ret, Prog.bind_assoc, wp_deviceId]
  -- fetch 7
  iapply (wp_fetch v κ c 7 (inC_of (off3_eq c 3)) rfl rfl (inH_of (off4_eq c 3)) rfl rfl) $$ [Hi1 Ht7]
  · isplitr; · iexact HK
    isplitl [Hi1]; · iexact Hi1
    iexact Ht7
  iintro Hf7
  simp only [k0_part23_eq_skeleton]; unfold k0_part23_skel
  simp only [semSignalWord, semWaitWord, Prog.lift, Prog.bind_op, Prog.bind_ret, Prog.pure_eq_ret, Prog.bind_assoc, wp_deviceId]
  -- transfer 1 is over
  iapply (wp_landed v κ c 1 8 (by decide) rfl rfl (c_any _) (c_any _)) $$ [HO Hu1]
  · isplitr; · iexact HK
    isplitl [HO]; · iexact HO
    iexact Hu1
  iintro ⟨HO, Hy1, Hs1, Hl1, He1⟩
  ihave He1 := (Entails.of_eq (extra_1 (F := F) (frm c 1))) $$ He1
  icases He1 with ⟨Hr8, Hr9⟩
  -- chunk 4 takes what transfer 1 brought
  iapply (wp_add c (chunkA c 2) 0 1 (fun o l => k0_pay24 o l) (off7_eq c 1) (off7_eq c 1) (off7_eq c 1) rfl (fun _ _ => rfl)) $$ [Ho4 Hl1]
  · isplitl [Ho4]; · iexact Ho4
    iexact Hl1
  iintro ⟨Ho4, Hl1⟩
  simp only [k0_part24_eq_skeleton]; unfold k0_part24_skel
  simp only [semSignalWord, semWaitWord, Prog.lift, Prog.bind_op, Prog.bind_ret, Prog.pure_eq_ret, Prog.bind_assoc, wp_deviceId]
  -- transfer 7 is over
  iapply (wp_landed v κ c 7 8 (by decide) rfl rfl (c_any _) (c_any _)) $$ [HO Hu7]
  · isplitr; · iexact HK
    isplitl [HO]; · iexact HO
    iexact Hu7
  iintro ⟨HO, Hy7, Hs7, Hl7, He7⟩
  ihave He7 := (Entails.of_eq (extra_7 (F := F) (frm c 7))) $$ He7
  icases He7 with ⟨Hr2, Hr3⟩
  -- chunk 5 takes what transfer 7 brought
  iapply (wp_add c (chunkB c 2) 1 1 (fun o l => k0_pay25 o l) (off8_eq c 1) (off8_eq c 1) (off8_eq c 1) rfl (fun _ _ => rfl)) $$ [Ho5 Hl7]
  · isplitl [Ho5]; · iexact Ho5
    iexact Hl7
  iintro ⟨Ho5, Hl7⟩
  simp only [k0_part25_eq_skeleton]; unfold k0_part25_skel
  simp only [semSignalWord, semWaitWord, Prog.lift, Prog.bind_op, Prog.bind_ret, Prog.pure_eq_ret, Prog.bind_assoc, wp_deviceId]
  -- transfer 2 starts
  ihave Hg10 := (give (F := F) c 10) $$ [Hs7]
  · isplitr; · iexact HM
    unfold room; iexists _; iexact Hs7
  iapply (wp_send v κ c 2 7 rfl (dev7_eq c) (outC_of (off1_eq c 2)) rfl rfl rfl) $$ [Ho4 Hr2 HO Hq2 Hg10]
  · isplitr; · iexact HK
    isplitl [Ho4]; · iexact Ho4
    isplitl [Hr2]; · iexact Hr2
    isplitl [Hg10]
    · iapply (Entails.of_eq (extra_2 (F := F) c).symm)
      iexact Hg10
    isplitl [HO]; · iexact HO
    iexact Hq2
  iintro ⟨HO, Hu2⟩
  -- transfer 8 starts
  ihave Hg4 := (give (F := F) c 4) $$ [Hs1]
  · isplitr; · iexact HM
    unfold room; iexists _; iexact Hs1
  iapply (wp_send v κ c 8 6 rfl (dev8_eq c) (outC_of (off3_eq c 2)) rfl rfl rfl) $$ [Ho5 Hr8 HO Hq8 Hg4]
  · isplitr; · iexact HK
    isplitl [Ho5]; · iexact Ho5
    isplitl [Hr8]; · iexact Hr8
    isplitl [Hg4]
    · iapply (Entails.of_eq (extra_8 (F := F) c).symm)
      iexact Hg4
    isplitl [HO]; · iexact HO
    iexact Hq8
  iintro ⟨HO, Hu8⟩
  simp only [k0_part26_eq_skeleton]; unfold k0_part26_skel
  simp only [semSignalWord, semWaitWord, Prog.lift, Prog.bind_op, Prog.bind_ret, Prog.pure_eq_ret, Prog.bind_assoc, wp_deviceId]
  simp only [k0_part27_eq_skeleton]; unfold k0_part27_skel
  simp only [semSignalWord, semWaitWord, Prog.lift, Prog.bind_op, Prog.bind_ret, Prog.pure_eq_ret, Prog.bind_assoc, wp_deviceId]
  -- contribution 6
  iapply (wp_compute v κ c 6 6 (fun w L H k3 k0 k1 k2 W => k0_pay30 (k0_pay26 w L H) (k0_pay27 w L H k3 k0) (k0_pay28 w L H) (k0_pay29 k1) k2 W) rfl rfl (x_any _) (h_any _) rfl rfl
    (off5_eq c 3) (off5_eq c 3) (fun _ _ _ _ _ _ _ _ => rfl)) $$ [Hf6 HO Hop Ho6]
  · isplitr; · ipureintro; revert c; decide +kernel
    isplitr; · iexact HK
    isplitl [Hf6]; · iexact Hf6
    isplitl [HO]; · iexact HO
    isplitl [Hop]; · iexact Hop
    iexact Ho6
  iintro ⟨Hi0, Hz6, HO, Hop, Ho6⟩
  simp only [k0_part28_eq_skeleton]; unfold k0_part28_skel
  simp only [semSignalWord, semWaitWord, Prog.lift, Prog.bind_op, Prog.bind_ret, Prog.pure_eq_ret, Prog.bind_assoc, wp_deviceId]
  -- contribution 7
  iapply (wp_compute v κ c 7 6 (fun w L H k3 k0 k1 k2 W => k0_pay33 w (k0_pay31 L) (k0_pay32 H) 4096#32 k3 k0 k1 k2 W) rfl rfl (x_any _) (h_any _) rfl rfl
    (off6_eq c 3) (off6_eq c 3) (fun _ _ _ _ _ _ _ _ => rfl)) $$ [Hf7 HO Hop Ho7]
  · isplitr; · ipureintro; revert c; decide +kernel
    isplitr; · iexact HK
    isplitl [Hf7]; · iexact Hf7
    isplitl [HO]; · iexact HO
    isplitl [Hop]; · iexact Hop
    iexact Ho7
  iintro ⟨Hi1, Hz7, HO, Hop, Ho7⟩
  simp only [k0_part29_eq_skeleton]; unfold k0_part29_skel
  simp only [semSignalWord, semWaitWord, Prog.lift, Prog.bind_op, Prog.bind_ret, Prog.pure_eq_ret, Prog.bind_assoc, wp_deviceId]
  simp only [k0_part30_eq_skeleton]; unfold k0_part30_skel
  simp only [semSignalWord, semWaitWord, Prog.lift, Prog.bind_op, Prog.bind_ret, Prog.pure_eq_ret, Prog.bind_assoc, wp_deviceId]
  -- transfer 2 is over
  iapply (wp_landed v κ c 2 6 (by decide) rfl rfl (c_any _) (c_any _)) $$ [HO Hu2]
  · isplitr; · iexact HK
    isplitl [HO]; · iexact HO
    iexact Hu2
  iintro ⟨HO, Hy2, Hs2, Hl2, He2⟩
  ihave He2 := (Entails.of_eq (extra_2 (F := F) (frm c 2))) $$ He2
  icases He2 with Hr10
  -- chunk 6 takes what transfer 2 brought
  iapply (wp_add c (chunkA c 3) 0 0 (fun o l => k0_pay34 o l) (off7_eq c 2) (off7_eq c 2) (off7_eq c 2) rfl (fun _ _ => rfl)) $$ [Ho6 Hl2]
  · isplitl [Ho6]; · iexact Ho6
    iexact Hl2
  iintro ⟨Ho6, Hl2⟩
  simp only [k0_part31_eq_skeleton]; unfold k0_part31_skel
  simp only [semSignalWord, semWaitWord, Prog.lift, Prog.bind_op, Prog.bind_ret, Prog.pure_eq_ret, Prog.bind_assoc, wp_deviceId]
  -- transfer 8 is over
  iapply (wp_landed v κ c 8 6 (by decide) rfl rfl (c_any _) (c_any _)) $$ [HO Hu8]
  · isplitr; · iexact HK
    isplitl [HO]; · iexact HO
    iexact Hu8
  iintro ⟨HO, Hy8, Hs8, Hl8, He8⟩
  ihave He8 := (Entails.of_eq (extra_8 (F := F) (frm c 8))) $$ He8
  icases He8 with Hr4
  -- chunk 7 takes what transfer 8 brought
  iapply (wp_add c (chunkB c 3) 1 0 (fun o l => k0_pay35 o l) (off8_eq c 2) (off8_eq c 2) (off8_eq c 2) rfl (fun _ _ => rfl)) $$ [Ho7 Hl8]
  · isplitl [Ho7]; · iexact Ho7
    iexact Hl8
  iintro ⟨Ho7, Hl8⟩
  simp only [k0_part32_eq_skeleton]; unfold k0_part32_skel
  simp only [semSignalWord, semWaitWord, Prog.lift, Prog.bind_op, Prog.bind_ret, Prog.pure_eq_ret, Prog.bind_assoc, wp_deviceId]
  ihave Ho6 := (owns_conv c (rfl : chunkA c 3 = srcC c 3) (last_A v c)) $$ [Ho6]
  · iexact Ho6
  ihave Ho7 := (owns_conv c (rfl : chunkB c 3 = srcC c 9) (last_B v c)) $$ [Ho7]
  · iexact Ho7
  -- transfer 3 starts
  ihave Hg11 := (give (F := F) c 11) $$ [Hs8]
  · isplitr; · iexact HM
    unfold room; iexists _; iexact Hs8
  iapply (wp_send v κ c 3 5 rfl (dev9_eq c) (outC_of (off9_eq c 0)) (outC_of (land9 c 0)) rfl rfl) $$ [Ho6 Hr3 HO Hq3 Hg11]
  · isplitr; · iexact HK
    isplitl [Ho6]; · iexact Ho6
    isplitl [Hr3]; · iexact Hr3
    isplitl [Hg11]
    · iapply (Entails.of_eq (extra_3 (F := F) c).symm)
      iexact Hg11
    isplitl [HO]; · iexact HO
    iexact Hq3
  iintro ⟨HO, Hu3⟩
  -- transfer 9 starts
  ihave Hg5 := (give (F := F) c 5) $$ [Hs2]
  · isplitr; · iexact HM
    unfold room; iexists _; iexact Hs2
  iapply (wp_send v κ c 9 4 rfl (dev10_eq c) (outC_of (off10_eq c 0)) (outC_of (land10 c 0)) rfl rfl) $$ [Ho7 Hr9 HO Hq9 Hg5]
  · isplitr; · iexact HK
    isplitl [Ho7]; · iexact Ho7
    isplitl [Hr9]; · iexact Hr9
    isplitl [Hg5]
    · iapply (Entails.of_eq (extra_9 (F := F) c).symm)
      iexact Hg5
    isplitl [HO]; · iexact HO
    iexact Hq9
  iintro ⟨HO, Hu9⟩
  -- transfer 3 is over
  iapply (wp_landed v κ c 3 4 (by decide) rfl rfl (c_any _) (c_any _)) $$ [HO Hu3]
  · isplitr; · iexact HK
    isplitl [HO]; · iexact HO
    iexact Hu3
  iintro ⟨HO, Hy3, Hs3, Hl3, He3⟩
  ihave He3 := (Entails.of_eq (extra_3 (F := F) (frm c 3))) $$ He3
  icases He3 with Hr11
  simp only [k0_part33_eq_skeleton]; unfold k0_part33_skel
  simp only [semSignalWord, semWaitWord, Prog.lift, Prog.bind_op, Prog.bind_ret, Prog.pure_eq_ret, Prog.bind_assoc, wp_deviceId]
  -- transfer 9 is over
  iapply (wp_landed v κ c 9 4 (by decide) rfl rfl (c_any _) (c_any _)) $$ [HO Hu9]
  · isplitr; · iexact HK
    isplitl [HO]; · iexact HO
    iexact Hu9
  iintro ⟨HO, Hy9, Hs9, Hl9, He9⟩
  ihave He9 := (Entails.of_eq (extra_9 (F := F) (frm c 9))) $$ He9
  icases He9 with Hr5
  ihave Hl3 := (owns_conv c (r := chunkA c 0) (relay_chunk_A c 0) (relay_A v c 0)) $$ [Hl3]
  · iexact Hl3
  ihave Hl9 := (owns_conv c (r := chunkB c 0) (relay_chunk_B c 0) (relay_B v c 0)) $$ [Hl9]
  · iexact Hl9
  simp only [k0_part34_eq_skeleton]; unfold k0_part34_skel
  simp only [semSignalWord, semWaitWord, Prog.lift, Prog.bind_op, Prog.bind_ret, Prog.pure_eq_ret, Prog.bind_assoc, wp_deviceId]
  -- transfer 4 starts
  iapply (wp_send v κ c 4 3 rfl (dev11_eq c) (outC_of (off9_eq c 1)) (outC_of (land9 c 1)) rfl rfl) $$ [Hl3 Hr4 HO Hq4 ]
  · isplitr; · iexact HK
    isplitl [Hl3]; · iexact Hl3
    isplitl [Hr4]; · iexact Hr4
    isplitr; · iapply (Entails.of_eq (extra_none (F := F) c 4 (by decide)).symm); iempintro
    isplitl [HO]; · iexact HO
    iexact Hq4
  iintro ⟨HO, Hu4⟩
  -- transfer 10 starts
  iapply (wp_send v κ c 10 2 rfl (dev12_eq c) (outC_of (off10_eq c 1)) (outC_of (land10 c 1)) rfl rfl) $$ [Hl9 Hr10 HO Hq10 ]
  · isplitr; · iexact HK
    isplitl [Hl9]; · iexact Hl9
    isplitl [Hr10]; · iexact Hr10
    isplitr; · iapply (Entails.of_eq (extra_none (F := F) c 10 (by decide)).symm); iempintro
    isplitl [HO]; · iexact HO
    iexact Hq10
  iintro ⟨HO, Hu10⟩
  -- transfer 4 is over
  iapply (wp_landed v κ c 4 2 (by decide) rfl rfl (c_any _) (c_any _)) $$ [HO Hu4]
  · isplitr; · iexact HK
    isplitl [HO]; · iexact HO
    iexact Hu4
  iintro ⟨HO, Hy4, Hs4, Hl4, He4⟩
  simp only [k0_part35_eq_skeleton]; unfold k0_part35_skel
  simp only [semSignalWord, semWaitWord, Prog.lift, Prog.bind_op, Prog.bind_ret, Prog.pure_eq_ret, Prog.bind_assoc, wp_deviceId]
  -- transfer 10 is over
  iapply (wp_landed v κ c 10 2 (by decide) rfl rfl (c_any _) (c_any _)) $$ [HO Hu10]
  · isplitr; · iexact HK
    isplitl [HO]; · iexact HO
    iexact Hu10
  iintro ⟨HO, Hy10, Hs10, Hl10, He10⟩
  ihave Hl4 := (owns_conv c (r := chunkA c 1) (relay_chunk_A c 1) (relay_A v c 1)) $$ [Hl4]
  · iexact Hl4
  ihave Hl10 := (owns_conv c (r := chunkB c 1) (relay_chunk_B c 1) (relay_B v c 1)) $$ [Hl10]
  · iexact Hl10
  simp only [k0_part36_eq_skeleton]; unfold k0_part36_skel
  simp only [semSignalWord, semWaitWord, Prog.lift, Prog.bind_op, Prog.bind_ret, Prog.pure_eq_ret, Prog.bind_assoc, wp_deviceId]
  -- transfer 5 starts
  iapply (wp_send v κ c 5 1 rfl (dev13_eq c) (outC_of (off9_eq c 2)) (outC_of (land9 c 2)) rfl rfl) $$ [Hl4 Hr5 HO Hq5 ]
  · isplitr; · iexact HK
    isplitl [Hl4]; · iexact Hl4
    isplitl [Hr5]; · iexact Hr5
    isplitr; · iapply (Entails.of_eq (extra_none (F := F) c 5 (by decide)).symm); iempintro
    isplitl [HO]; · iexact HO
    iexact Hq5
  iintro ⟨HO, Hu5⟩
  -- transfer 11 starts
  iapply (wp_send v κ c 11 0 rfl (dev14_eq c) (outC_of (off10_eq c 2)) (outC_of (land10 c 2)) rfl rfl) $$ [Hl10 Hr11 HO Hq11 ]
  · isplitr; · iexact HK
    isplitl [Hl10]; · iexact Hl10
    isplitl [Hr11]; · iexact Hr11
    isplitr; · iapply (Entails.of_eq (extra_none (F := F) c 11 (by decide)).symm); iempintro
    isplitl [HO]; · iexact HO
    iexact Hq11
  iintro ⟨HO, Hu11⟩
  -- transfer 5 is over
  iapply (wp_landed v κ c 5 0 (by decide) rfl rfl (c_any _) (c_any _)) $$ [HO Hu5]
  · isplitr; · iexact HK
    isplitl [HO]; · iexact HO
    iexact Hu5
  iintro ⟨HO, Hy5, Hs5, Hl5, He5⟩
  -- transfer 11 is over
  iapply (wp_landed v κ c 11 0 (by decide) rfl rfl (c_any _) (c_any _)) $$ [HO Hu11]
  · isplitr; · iexact HK
    isplitl [HO]; · iexact HO
    iexact Hu11
  iintro ⟨HO, Hy11, Hs11, Hl11, He11⟩
  iapply (runs_ret c Q)
  iapply HQ
  unfold ended
  isplitl [HO]; · iexact HO
  isplitl [Hzb]; · iexact Hzb
  isplitl [Hz0 Hz1 Hz2 Hz3 Hz4 Hz5 Hz6 Hz7]
  · iapply (Entails.of_eq (bigSep_fin8 _).symm)
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  isplitl [Hy0 Hy1 Hy2 Hy3 Hy4 Hy5 Hy6 Hy7 Hy8 Hy9 Hy10 Hy11]
  · iapply (Entails.of_eq (bigSep_fin12 _).symm)
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    iexact Hy11
  isplitl [Hi0]; · iexact Hi0
  isplitl [Hi1]; · iexact Hi1
  isplitl [Hop]; · iexact Hop
  isplitl [Hs4 Hs10 Hs5 Hs11 Hl5 Hl11 Hs3 Hs9]
  · iapply (Entails.of_eq (bigSep_fin8 _).symm)
    isplitl [Hs4]; · iapply (owns_conv c (own_chunk_4 c) (own_4 v c)); iexact Hs4
    isplitl [Hs10]; · iapply (owns_conv c (own_chunk_10 c) (own_10 v c)); iexact Hs10
    isplitl [Hs5]; · iapply (owns_conv c (own_chunk_5 c) (own_5 v c)); iexact Hs5
    isplitl [Hs11]; · iapply (owns_conv c (own_chunk_11 c) (own_11 v c)); iexact Hs11
    isplitl [Hl5]; · iapply (owns_conv c (rfl : chunkA c 2 = fetC c 4) (got_5 v c)); iexact Hl5
    isplitl [Hl11]; · iapply (owns_conv c (rfl : chunkB c 2 = fetC c 5) (got_11 v c)); iexact Hl11
    isplitl [Hs3]; · iapply (owns_conv c (rfl : srcC c 3 = fetC c 6) (own_3 v c)); iexact Hs3
    iapply (owns_conv c (rfl : srcC c 9 = fetC c 7) (own_9 v c)); iexact Hs9
  isplitl [Hl2]; · iexists _; iexact Hl2
  isplitl [Hl1]; · iexists _; iexact Hl1
  isplitl [Hl8]; · iexists _; iexact Hl8
  iexists _; iexact Hl7

end Cert.Conv

end
-- ==== Proof.Buffers.lean ====
/-
The kernel's buffers cut into the pieces its steps work on, and put together again: the
output into its eight chunks, the scratch buffers into their slots, the input's share into
the shares of the copies in flight.
-/
module

public import proofs.«01_k».proof.Proof.Body
public import Idealize.ShloMosaic.Lib.MemrefSat

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (v : Vals F) (c : Dev nD)

/-! ## The rectangles -/

theorem chunkR_disj (r r' : Fin 8) (h : r ≠ r') : Disjoint (chunkR r).set (chunkR r').set := by
  refine Rect.disjoint_of_separated _ _ (0 : Fin 2) ?_
  revert r r'; decide

theorem chunkR_cover : (Finset.univ : Finset (Fin 8)).biUnion (fun r => (chunkR r).set) = Finset.univ := by
  refine Finset.eq_univ_iff_forall.mpr fun i => Finset.mem_biUnion.mpr ?_
  have h0 : (i 0).val < 8192 := (i 0).isLt
  have h1 : (i 1).val < 1024 := (i 1).isLt
  refine ⟨⟨(i 0).val / 1024, by omega⟩, Finset.mem_univ _, (LoadRect.mem_set _).mpr fun a => ?_⟩
  fin_cases a
  · exact ⟨(i 0).val % 1024, Nat.mod_lt _ (by decide), by
      show (i 0).val = 1024 * ((i 0).val / 1024) + 1 * ((i 0).val % 1024); omega⟩
  · exact ⟨(i 1).val, h1, by show (i 1).val = 0 + 1 * (i 1).val; omega⟩

theorem xSlotR_disj (s s' : Fin 2) (h : s ≠ s') : Disjoint (xSlotR s).set (xSlotR s').set := by
  refine Rect.disjoint_of_separated _ _ (0 : Fin 3) ?_
  revert s s'; decide
theorem xSlotR_cover : (Finset.univ : Finset (Fin 2)).biUnion (fun s => (xSlotR s).set) = Finset.univ := by
  refine Finset.eq_univ_iff_forall.mpr fun i => Finset.mem_biUnion.mpr ⟨i 0, Finset.mem_univ _, (LoadRect.mem_set _).mpr fun a => ?_⟩
  fin_cases a
  · exact ⟨0, Nat.one_pos, rfl⟩
  · exact ⟨(i 1).val, (i 1).isLt, by show (i 1).val = 0 + 1 * (i 1).val; omega⟩
  · exact ⟨(i 2).val, (i 2).isLt, by show (i 2).val = 0 + 1 * (i 2).val; omega⟩
theorem hSlotR_disj (s s' : Fin 2) (h : s ≠ s') : Disjoint (hSlotR s).set (hSlotR s').set := by
  refine Rect.disjoint_of_separated _ _ (0 : Fin 3) ?_
  revert s s'; decide
theorem hSlotR_cover : (Finset.univ : Finset (Fin 2)).biUnion (fun s => (hSlotR s).set) = Finset.univ := by
  refine Finset.eq_univ_iff_forall.mpr fun i => Finset.mem_biUnion.mpr ⟨i 0, Finset.mem_univ _, (LoadRect.mem_set _).mpr fun a => ?_⟩
  fin_cases a
  · exact ⟨0, Nat.one_pos, rfl⟩
  · exact ⟨(i 1).val, (i 1).isLt, by show (i 1).val = 0 + 1 * (i 1).val; omega⟩
  · exact ⟨(i 2).val, (i 2).isLt, by show (i 2).val = 0 + 1 * (i 2).val; omega⟩
theorem commR_disj (p p' : Fin 2 × Fin 2) (h : p ≠ p') : Disjoint (commR p.1 p.2).set (commR p'.1 p'.2).set := by
  by_cases h1 : p.1 = p'.1
  · refine Rect.disjoint_of_separated _ _ (1 : Fin 4) ?_
    revert p p'; decide
  · refine Rect.disjoint_of_separated _ _ (0 : Fin 4) ?_
    revert p p'; decide
theorem commR_cover : (Finset.univ : Finset (Fin 2 × Fin 2)).biUnion (fun p => (commR p.1 p.2).set) = Finset.univ := by
  refine Finset.eq_univ_iff_forall.mpr fun i => Finset.mem_biUnion.mpr ⟨(i 0, i 1), Finset.mem_univ _, (LoadRect.mem_set _).mpr fun a => ?_⟩
  fin_cases a
  · exact ⟨0, Nat.one_pos, rfl⟩
  · exact ⟨0, Nat.one_pos, rfl⟩
  · exact ⟨(i 2).val, (i 2).isLt, by show (i 2).val = 0 + 1 * (i 2).val; omega⟩
  · exact ⟨(i 3).val, (i 3).isLt, by show (i 3).val = 0 + 1 * (i 3).val; omega⟩

/-! ## Any contents -/

/-- A memref owned at contents not named. -/
def anyOf {sp : Space} {s : Shape} {e : EltTy} (m : Memref sig .tc sp s e) : sProp 𝕄 := iprop(∃ X, owns (c : Thread nD τ) m fullShare X)

/-- Dropping axes of extent one changes nothing of who owns what. -/
theorem anyOf_squeeze {sp : Space} {s s' : Shape} {e : EltTy} (m : Memref sig .tc sp s e) (h : s.Squeezes s') :
    (anyOf (F := F) c (m.squeeze s' h)) = anyOf (F := F) c m := by
  have hs : (m.squeeze s' h).view.set = m.view.set := View.set_reshape _ _
  have h₁ : anyOf (F := F) c (m.squeeze s' h) ⊢ anyOf (F := F) c m := by
    unfold anyOf owns
    iintro ⟨%X, %f, -, H⟩
    iexists _; iexists f
    isplitr; · ipureintro; rfl
    iapply (Entails.of_eq (congrArg (fun S => (m.view.loc (c : Thread nD τ) ↦[S]{fullShare} f : sProp 𝕄)) hs)); iexact H
  have h₂ : anyOf (F := F) c m ⊢ anyOf (F := F) c (m.squeeze s' h) := by
    unfold anyOf owns
    iintro ⟨%X, %f, -, H⟩
    iexists _; iexists f
    isplitr; · ipureintro; rfl
    iapply (Entails.of_eq (congrArg (fun S => (m.view.loc (c : Thread nD τ) ↦[S]{fullShare} f : sProp 𝕄)) hs.symm)); iexact H
  exact BI.equiv_iff.mp ⟨h₁, h₂⟩

theorem anyOf_sat {sp : Space} {s : Shape} {e : EltTy} (m : Memref sig .tc sp s e) :
    anyOf (F := F) c m = ownsSat (c : Thread nD τ) m fullShare (fun _ => True) :=
  BI.equiv_iff.mp ⟨(ownsSat_true (c : Thread nD τ) m fullShare).2, (ownsSat_true (c : Thread nD τ) m fullShare).1⟩

section Cut
variable {sp : Space} {sh : Shape} {e : EltTy} (m : Memref sig .tc sp sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref at any contents is the slices of a disjoint covering family, each at any contents. -/
theorem anyOf_cut [∀ e, Nonempty (Elt F e)] :
    anyOf (F := F) c m = bigSep Finset.univ fun t => anyOf (F := F) c (m.slice (r t) (hr t)) := by
  rw [anyOf_sat, bigSep_congr fun t _ => anyOf_sat (F := F) c (m.slice (r t) (hr t))]
  refine BI.equiv_iff.mp ⟨?_, ?_⟩
  · refine (Entails.of_eq (ownsSat_congr (c : Thread nD τ) m fullShare fun X => ?_)).trans
      (ownsSat_rects (c : Thread nD τ) m fullShare r hr hd hcov (fun _ _ => True))
    exact ⟨fun _ _ => trivial, fun _ => trivial⟩
  · refine (ownsSat_of_rects (c : Thread nD τ) m fullShare r hr hd hcov (fun _ _ => True)).trans
      (Entails.of_eq (ownsSat_congr (c : Thread nD τ) m fullShare fun X => ?_))
    exact ⟨fun _ => trivial, fun _ _ => trivial⟩

end Cut

/-- A whole buffer at any contents. -/
theorem anyOf_whole (b : Ref sig .tc) :
    anyOf (F := F) c (Memref.whole b) = iprop(∃ f : Buf (Elt F) ((c : Thread nD τ).loc b), ((c : Thread nD τ).loc b) ↦{fullShare} f) := by
  have h₁ : anyOf (F := F) c (Memref.whole b)
      ⊢ iprop(∃ f : Buf (Elt F) ((c : Thread nD τ).loc b), ((c : Thread nD τ).loc b) ↦{fullShare} f) := by
    unfold anyOf
    iintro ⟨%X, H⟩; iexists X; iapply (Entails.of_eq (owns_whole (c : Thread nD τ) b fullShare X)); iexact H
  have h₂ : iprop(∃ f : Buf (Elt F) ((c : Thread nD τ).loc b), ((c : Thread nD τ).loc b) ↦{fullShare} f)
      ⊢ anyOf (F := F) c (Memref.whole b) := by
    unfold anyOf
    iintro ⟨%X, H⟩; iexists X; iapply (Entails.of_eq (owns_whole (c : Thread nD τ) b fullShare X).symm); iexact H
  exact BI.equiv_iff.mp ⟨h₁, h₂⟩

variable [∀ e, Nonempty (Elt F e)]

/-! ## The scratch buffers -/

theorem xb_slots : anyOf (F := F) c xbM = iprop(anyOf (F := F) c (xSlot 0) ∗ anyOf (F := F) c (xSlot 1)) := by
  rw [anyOf_cut c xbM xSlotR (fun _ _ => rfl) xSlotR_disj xSlotR_cover, bigSep_univ_two,
    anyOf_squeeze, anyOf_squeeze]
theorem hb_slots : anyOf (F := F) c hbM = iprop(anyOf (F := F) c (hSlot 0) ∗ anyOf (F := F) c (hSlot 1)) := by
  rw [anyOf_cut c hbM hSlotR (fun _ _ => rfl) hSlotR_disj hSlotR_cover, bigSep_univ_two,
    anyOf_squeeze, anyOf_squeeze]
theorem cb_slots : anyOf (F := F) c cbM
    = iprop((anyOf (F := F) c (commC 0 0) ∗ anyOf (F := F) c (commC 0 1)) ∗ (anyOf (F := F) c (commC 1 0) ∗ anyOf (F := F) c (commC 1 1))) := by
  rw [anyOf_cut c cbM (fun p : Fin 2 × Fin 2 => commR p.1 p.2) (fun _ _ => rfl) commR_disj commR_cover, bigSep_univ_prod,
    bigSep_univ_two, bigSep_univ_two, bigSep_univ_two, anyOf_squeeze, anyOf_squeeze, anyOf_squeeze, anyOf_squeeze]

/-! ## The output -/

/-- The eight fetches read the eight chunks. -/
def fetE : Fin 8 ≃ Fin 8 := Equiv.ofBijective (fetC c) (by revert c; decide)

theorem out_cut : anyOf (F := F) c oM = bigSep Finset.univ fun i : Fin 8 => anyOf (F := F) c (outC (fetC c i)) := by
  rw [anyOf_cut c oM chunkR (fun _ _ => rfl) chunkR_disj chunkR_cover,
    bigSep_univ_equiv (fetE c) (fun r : Fin 8 => anyOf (F := F) c (oM.slice (chunkR r) (fun _ => rfl)))]
  rfl

/-- The finished output: chunk by chunk, what its last adder holds. -/
def assembled : S8192x1024.Idx → Elt F .bf16 := fun i =>
  finished v ⟨(i 0).val / 1024, by have : (i 0).val < 8192 := (i 0).isLt; omega⟩
    (Shape.pair (d := S1024x1024.size) ⟨(i 0).val % 1024, Nat.mod_lt _ (by decide)⟩ (i 1))

theorem assembled_chunk (r : Fin 8) : (fun j => assembled v ((chunkR r).emb j)) = finished v r := by
  funext j
  have h0 : (j 0).val < 1024 := (j 0).isLt
  have e0 : ((chunkR r).emb j 0).val = 1024 * r.val + 1 * (j 0).val := rfl
  have e1 : ((chunkR r).emb j 1).val = 0 + 1 * (j 1).val := rfl
  unfold assembled
  have hr : (⟨((chunkR r).emb j 0).val / 1024, by have : ((chunkR r).emb j 0).val < 8192 := ((chunkR r).emb j 0).isLt; omega⟩ : Fin 8) = r :=
    Fin.ext (by show ((chunkR r).emb j 0).val / 1024 = r.val; omega)
  rw [hr]
  refine congrArg (finished v r) (funext fun a => Fin.ext ?_)
  fin_cases a
  · show ((chunkR r).emb j 0).val % 1024 = (j 0).val; omega
  · show ((chunkR r).emb j 1).val = (j 1).val; omega

theorem out_join : (bigSep Finset.univ fun i : Fin 8 => owns (c : Thread nD τ) (outC (fetC c i)) fullShare (finished v (fetC c i)) : sProp 𝕄)
    ⊢ owns (c : Thread nD τ) oM fullShare (assembled v) := by
  refine Entails.trans (Entails.of_eq ?_) (owns_of_rects (c : Thread nD τ) oM fullShare chunkR (fun _ _ => rfl) chunkR_disj chunkR_cover (assembled v))
  rw [bigSep_congr fun r _ => congrArg (fun X => (owns (c : Thread nD τ) (oM.slice (chunkR r) (fun _ => rfl)) fullShare X : sProp 𝕄)) (assembled_chunk v r),
    bigSep_univ_equiv (fetE c) (fun r : Fin 8 => (owns (c : Thread nD τ) (oM.slice (chunkR r) (fun _ => rfl)) fullShare (finished v r) : sProp 𝕄))]
  rfl

/-! ## The input's share -/

/-- The whole input at four shares, two for the copies of rows and two for the copies of the rows before. -/
theorem x_shares (ℓ : Loc nD τ sig) (f : Buf (Elt F) ℓ) : (ℓ ↦{fullShare} f : sProp 𝕄)
    ⊣⊢ iprop(((ℓ ↦{xq 0} f) ∗ (ℓ ↦{hq 0} f)) ∗ ((ℓ ↦{xq 1} f) ∗ (ℓ ↦{hq 1} f))) := by
  have h (q : PosShare TreeShare) : (ℓ ↦{q} f : sProp 𝕄) ⊣⊢ iprop((ℓ ↦{q.left} f) ∗ (ℓ ↦{q.right} f)) :=
    pointsTo_share (PosShare.mem_left_op_right q)
  constructor
  · iintro H
    ihave H := (h fullShare).1 $$ H
    icases H with ⟨Hl, Hr⟩
    ihave Hl := (h fullShare.left).1 $$ Hl
    ihave Hr := (h fullShare.right).1 $$ Hr
    icases Hl with ⟨H1, H2⟩
    icases Hr with ⟨H3, H4⟩
    isplitl [H1 H3]
    · isplitl [H1]; · iexact H1
      iexact H3
    · isplitl [H2]; · iexact H2
      iexact H4
  · iintro ⟨⟨H1, H3⟩, ⟨H2, H4⟩⟩
    iapply (h fullShare).2
    isplitl [H1 H2]
    · iapply (h fullShare.left).2
      isplitl [H1]; · iexact H1
      iexact H2
    · iapply (h fullShare.right).2
      isplitl [H3]; · iexact H3
      iexact H4

end Cert.Conv

end
-- ==== Proof.Deal.lean ====
/-
What the launch deals: the cells, the token of every hand-over to the device that makes it,
and the credit of every hand-over to the device that waits for it.
-/
module

public import proofs.«01_k».proof.Proof.Buffers
public import Idealize.ShloMosaic.Lib.Pipeline.Regions
public import Idealize.ShloMosaic.Lib.Pipeline.RegionTalk
public import Idealize.ShloMosaic.Harness.Basic

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (v : Vals F) (κ : GSem nD τ sig → ℕ) (c : Dev nD)

/-! ## The kernel's own transfer semaphores, by kind -/

/-- Eight fetches of rows, eight of the rows before; twelve transfers sent, twelve received. -/
abbrev OwnK : Type := (Fin 8 ⊕ Fin 8) ⊕ (Fin 12 ⊕ Fin 12)
def ownS : OwnK → DmaSem sig
  | .inl (.inl i) => xS i
  | .inl (.inr i) => hS i
  | .inr (.inl j) => sS j
  | .inr (.inr j) => rS j
abbrev osem (k : OwnK) : SemLoc sig := .dma (ownS k)
abbrev ownCell (c : Dev nD) (k : OwnK) : GSem nD τ sig := ((c : Thread nD τ), osem k)

theorem ownS_inj : Function.Injective ownS := by
  have h : Function.Injective fun k : OwnK => (ownS k).val := by decide +kernel
  exact fun a b e => h (congrArg Fin.val e)
theorem osem_inj : Function.Injective osem := fun a b h => ownS_inj (by injection h)
theorem osem_facts : Pipeline.OwnSemFacts spec0 osem := by decide +kernel

/-- A conjunction over the kernel's own semaphores, kind by kind. -/
theorem own_kinds (Φ : OwnK → sProp 𝕄) : bigSep Finset.univ Φ
    = iprop(((bigSep Finset.univ fun i => Φ (.inl (.inl i))) ∗ (bigSep Finset.univ fun i => Φ (.inl (.inr i))))
      ∗ ((bigSep Finset.univ fun j => Φ (.inr (.inl j))) ∗ (bigSep Finset.univ fun j => Φ (.inr (.inr j))))) := by
  rw [bigSep_univ_sum, bigSep_univ_sum, bigSep_univ_sum]; rfl

theorem own_mem (c : Dev nD) (k : OwnK) : ownCell c k ∈ barCells ∪ dmaCells := by
  rcases k with (i | i) | (j | j)
  · exact mem_x c i
  · exact mem_h c i
  · exact mem_s c j
  · exact mem_r c j

/-! ## The cells and the tokens, as images -/

def barEmb : Dev nD ↪ GSem nD τ sig := ⟨fun c => barCell c, fun _ _ h => congrArg (fun g : GSem nD τ sig => g.1.1) h⟩
def ownEmb : Dev nD × OwnK ↪ GSem nD τ sig :=
  ⟨fun p => ownCell p.1 p.2, fun _ _ h =>
    Prod.ext (congrArg (fun g : GSem nD τ sig => g.1.1) h) (osem_inj (congrArg Prod.snd h))⟩

theorem barCells_eq : barCells = Finset.univ.map barEmb := by unfold barCells; rw [Finset.map_eq_image]; rfl
theorem dmaCells_eq : dmaCells = Finset.univ.map ownEmb := by
  unfold dmaCells
  ext g
  simp only [Finset.mem_union, Finset.mem_image, Finset.mem_map, Finset.mem_univ, true_and]
  constructor
  · rintro (((⟨p, rfl⟩ | ⟨p, rfl⟩) | ⟨p, rfl⟩) | ⟨p, rfl⟩)
    · exact ⟨(p.1, .inl (.inl p.2)), rfl⟩
    · exact ⟨(p.1, .inl (.inr p.2)), rfl⟩
    · exact ⟨(p.1, .inr (.inl p.2)), rfl⟩
    · exact ⟨(p.1, .inr (.inr p.2)), rfl⟩
  · rintro ⟨⟨c, ((i | i) | (j | j))⟩, rfl⟩
    · exact .inl (.inl (.inl ⟨(c, i), rfl⟩))
    · exact .inl (.inl (.inr ⟨(c, i), rfl⟩))
    · exact .inl (.inr ⟨(c, j), rfl⟩)
    · exact .inr ⟨(c, j), rfl⟩

theorem cells_disjoint : Disjoint barCells dmaCells := by
  rw [barCells_eq, dmaCells_eq, Finset.disjoint_left]
  rintro g h₁ h₂
  obtain ⟨c, -, rfl⟩ := Finset.mem_map.mp h₁
  obtain ⟨p, -, h⟩ := Finset.mem_map.mp h₂
  exact nomatch (congrArg Prod.snd h)

/-- A device's tokens: two at its barrier, one at each transfer semaphore. -/
abbrev TokK : Type := Bool ⊕ OwnK
def tokSem : TokK → SemLoc sig × Bool
  | .inl b => (.reg barS, b)
  | .inr k => (osem k, false)
theorem tokSem_inj : Function.Injective tokSem := by
  rintro (a | a) (b | b) h
  · exact congrArg Sum.inl (congrArg Prod.snd h)
  · exact nomatch (congrArg Prod.fst h)
  · exact nomatch (congrArg Prod.fst h)
  · exact congrArg Sum.inr (osem_inj (congrArg Prod.fst h))
def tokEmb : Dev nD × TokK ↪ GSem nD τ sig × ℕ × Bool :=
  ⟨fun p => (((p.1 : Thread nD τ), (tokSem p.2).1), 0, (tokSem p.2).2), fun _ _ h =>
    Prod.ext (congrArg (fun t : GSem nD τ sig × ℕ × Bool => t.1.1.1) h)
      (tokSem_inj (Prod.ext (congrArg (fun t : GSem nD τ sig × ℕ × Bool => t.1.2) h) (congrArg (fun t : GSem nD τ sig × ℕ × Bool => t.2.2) h)))⟩
def allToks : Finset (GSem nD τ sig × ℕ × Bool) := Finset.univ.map tokEmb

/-- The tokens a device's own cells come with. -/
def minted : sProp 𝕄 :=
  iprop((dutyTok ER (barCell c) 0 true ∗ dutyTok ER (barCell c) 0 false)
    ∗ (((bigSep Finset.univ fun i : Fin 8 => dutyTok ER (xCell c i) 0 false) ∗ (bigSep Finset.univ fun i : Fin 8 => dutyTok ER (hCell c i) 0 false))
      ∗ ((bigSep Finset.univ fun j : Fin 12 => dutyTok ER (sCell c j) 0 false) ∗ (bigSep Finset.univ fun j : Fin 12 => dutyTok ER (rCell c j) 0 false))))
/-- The tokens of the hand-overs it makes. -/
def handed : sProp 𝕄 :=
  iprop((dutyTok ER (barCell (prv c)) 0 true ∗ dutyTok ER (barCell (nxt c)) 0 false)
    ∗ (((bigSep Finset.univ fun i : Fin 8 => dutyTok ER (xCell c i) 0 false) ∗ (bigSep Finset.univ fun i : Fin 8 => dutyTok ER (hCell c i) 0 false))
      ∗ ((bigSep Finset.univ fun j : Fin 12 => dutyTok ER (sCell c j) 0 false) ∗ (bigSep Finset.univ fun j : Fin 12 => dutyTok ER (rCell (tgt c j) j) 0 false))))

theorem toks_minted : bigSep allToks (fun x => (dutyTok ER x.1 x.2.1 x.2.2 : sProp 𝕄)) = bigSep Finset.univ fun c : Dev nD => minted c := by
  unfold allToks; rw [bigSep_map, bigSep_univ_prod]
  refine bigSep_congr fun c _ => ?_
  rw [bigSep_univ_sum, bigSep_univ_eq_bigSepL [true, false] (by decide) (by decide), bigSepL_cons_cons, bigSepL_singleton, own_kinds]
  rfl

/-- Which device a device's transfer `j` reaches, as a permutation. -/
def tgtE (j : Fin 12) : Dev nD ≃ Dev nD := ⟨fun c => tgt c j, fun c => frm c j, fun c => frm_tgt c j, fun c => tgt_frm c j⟩

/-- The tokens go round the ring: each to the device that makes the hand-over. -/
theorem minted_handed : (bigSep Finset.univ fun c : Dev nD => minted (F := F) c) ⊢ (bigSep Finset.univ fun c : Dev nD => handed (F := F) c) := by
  unfold minted handed
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_comm (fun (c : Dev nD) (j : Fin 12) => (dutyTok ER (rCell c j) 0 false : sProp 𝕄)),
    bigSep_univ_comm (fun (c : Dev nD) (j : Fin 12) => (dutyTok ER (rCell (tgt c j) j) 0 false : sProp 𝕄)),
    bigSep_congr fun j _ => bigSep_univ_equiv (tgtE j) (fun c : Dev nD => (dutyTok ER (rCell c j) 0 false : sProp 𝕄))]
  exact BI.Entails.refl _

/-! ## The credit -/

theorem owing_sum (d : Dev nD) (k : ℕ) (g : GSem nD τ sig) :
    owing d k g () = ∑ i ∈ Finset.range k, tallyAt (rCell (tgt d (nextJ i)) (nextJ i)) () NC g () := by
  induction k with
  | zero => rfl
  | succ k ih => rw [Finset.sum_range_succ, ← ih]; rfl

theorem bar_tally (d c : Dev nD) (n : ℕ) : (tallyAt (barCell d) () n : CellTallies nD τ sig Unit) (barCell c) () = if c = d then n else 0 := by
  rw [tallyAt_apply]
  by_cases h : c = d
  · subst h; rw [if_pos ⟨rfl, rfl⟩, if_pos rfl]
  · rw [if_neg (fun h' => h (congrArg (fun g : GSem nD τ sig => g.1.1) h'.1)), if_neg h]
theorem rS_inj {i j : Fin 12} (h : rS i = rS j) : i = j := by
  have := congrArg Fin.val h
  exact Fin.ext (by simpa using this)
theorem r_tally (d c : Dev nD) (i j : Fin 12) (n : ℕ) :
    (tallyAt (rCell d i) () n : CellTallies nD τ sig Unit) (rCell c j) () = (if c = d ∧ j = i then 1 else 0) * n := by
  rw [tallyAt_apply]
  by_cases h : c = d ∧ j = i
  · obtain ⟨rfl, rfl⟩ := h; rw [if_pos ⟨rfl, rfl⟩, if_pos ⟨rfl, rfl⟩, Nat.one_mul]
  · rw [if_neg (fun h' => h ⟨congrArg (fun g : GSem nD τ sig => g.1.1) h'.1,
      rS_inj (by have := congrArg Prod.snd h'.1; injection this)⟩), if_neg h, Nat.zero_mul]

theorem bar_ne_r (c d : Dev nD) (j : Fin 12) : (barCell c : GSem nD τ sig) ≠ rCell d j := by
  intro h; have h' : SemLoc.reg barS = .dma (rS j) := congrArg Prod.snd h; cases h'
/-- At a device's barrier the devices owe two units. -/
theorem owed_bar (c : Dev nD) : ∑ d : Dev nD, owing0 d (barCell c) () = 2 := by
  have h (d : Dev nD) : owing0 d (barCell c) () = (if c = nxt d then 1 else 0) + (if c = prv d then 1 else 0) := by
    unfold owing0 owing1
    rw [Pi.add_apply, Finsupp.add_apply, Pi.add_apply, Finsupp.add_apply, bar_tally, bar_tally, owing_sum, Finset.sum_eq_zero, Nat.zero_add]
    intro i _
    exact congrArg (fun f : Unit →₀ ℕ => f ()) (tallyAt_ne_cell (bar_ne_r _ _ _) () NC)
  rw [Finset.sum_congr rfl fun d _ => h d]
  clear h; revert c; decide
/-- At a landing semaphore they owe one transfer. -/
theorem owed_r (c : Dev nD) (j : Fin 12) : ∑ d : Dev nD, owing0 d (rCell c j) () = NC := by
  have h (d : Dev nD) : owing0 d (rCell c j) () = (∑ i ∈ Finset.range 12, if c = tgt d (nextJ i) ∧ j = nextJ i then 1 else 0) * NC := by
    unfold owing0 owing1
    rw [Pi.add_apply, Finsupp.add_apply, Pi.add_apply, Finsupp.add_apply, tallyAt_ne_cell (bar_ne_r _ _ _).symm,
      tallyAt_ne_cell (bar_ne_r _ _ _).symm, owing_sum, Finset.sum_mul, Finsupp.zero_apply, Nat.add_zero, Nat.add_zero]
    exact Finset.sum_congr rfl fun i _ => r_tally _ _ _ _ _
  rw [Finset.sum_congr rfl fun d _ => h d, ← Finset.sum_mul]
  have e : ∑ d : Dev nD, ∑ i ∈ Finset.range 12, (if c = tgt d (nextJ i) ∧ j = nextJ i then 1 else 0) = 1 := by
    clear h; revert c j; decide +kernel
  rw [e, Nat.one_mul]

theorem launch_at (c : Dev nD) (sm : SemLoc sig) (n : ℕ) (h : ∑ d : Dev nD, owing0 d ((c : Thread nD τ), sm) () = n) :
    tallyOn ((c : Thread nD τ), sm) (launchCredit (Pipeline.owing owing0) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, h]

def rEmb : Fin 12 ↪ SemLoc sig := ⟨fun j => .dma (rS j), fun i j h => rS_inj (by injection h)⟩

/-- What the launch lets a device wait for. -/
def credits : sProp 𝕄 := iprop(cred (tallyAt (barCell c) () 2) ∗ bigSep Finset.univ fun j : Fin 12 => cred (tallyAt (rCell c j) () NC))

theorem credits_dealt : (Pipeline.launchCred owing0 c : sProp 𝕄) ⊢ credits c := by
  unfold Pipeline.launchCred credits
  rw [bigSep_univ_at _ (SemLoc.reg barS), launch_at c _ 2 (owed_bar c)]
  refine sep_mono_right ?_
  refine (bigSep_subset (t := Finset.univ.map rEmb) fun sm hsm => ?_).trans ?_
  · obtain ⟨j, -, rfl⟩ := Finset.mem_map.mp hsm
    exact Finset.mem_erase.mpr ⟨(fun h => nomatch h), Finset.mem_univ _⟩
  · rw [bigSep_map]
    refine Entails.of_eq (bigSep_congr fun j _ => ?_)
    show cred (tallyOn ((c : Thread nD τ), SemLoc.dma (rS j)) _) = _
    rw [← launch_at c _ NC (owed_r c j)]
    rfl

/-! ## From the launch to the body -/

/-- What a device holds from the launch on, beside the cells' invariants: nothing of its own semaphores is open yet. -/
def sealed : sProp 𝕄 :=
  iprop(atPos ER (barCell c) 0 ∅ 0 ∗ (reached ER (barCell (prv c)) 0 ∗ reached ER (barCell (nxt c)) 0)
    ∗ (bigSep Finset.univ fun k : OwnK => openTok ER (ownCell c k)) ∗ handed c ∗ credits c)
/-- The same with them open, dealt out to the steps of the body. -/
def opened : sProp 𝕄 :=
  iprop((dutyTok ER (barCell (prv c)) 0 true ∗ reached ER (barCell (prv c)) 0)
    ∗ (dutyTok ER (barCell (nxt c)) 0 false ∗ reached ER (barCell (nxt c)) 0)
    ∗ atPos ER (barCell c) 0 ∅ 0 ∗ cred (tallyAt (barCell c) () 2)
    ∗ (bigSep Finset.univ fun i : Fin 8 => ticket (F := F) c i) ∗ (bigSep Finset.univ fun j : Fin 12 => ringTicket (F := F) c j) ∗ marks (F := F) c)

/-- Every cell's invariant. -/
def invs : sProp 𝕄 := bigSep (barCells ∪ dmaCells) fun g => cellInv ER (Rd v) (κ g) g
instance invs_persistent : BI.Persistent (invs v κ) := by unfold invs; infer_instance
theorem inv_at {g : GSem nD τ sig} (hg : g ∈ barCells ∪ dmaCells) : invs v κ ⊢ cellInv ER (Rd v) (κ g) g := by
  unfold invs; exact bigSep_elim hg

/-- The device's own semaphores, at zero, put into their cells. -/
theorem open_own : iprop(invs v κ ∗ (bigSep Finset.univ fun k : OwnK => openTok ER (ownCell c k)) ∗ Pipeline.ownSems0 osem c)
    ⊢ (|={Set.univ}=> bigSep Finset.univ fun k : OwnK => iprop(atPos ER (ownCell c k) 0 ∅ 0 ∗ reached ER (ownCell c k) 0) : sProp 𝕄) := by
  refine BIBase.Entails.trans ?_ (bigSep_fupd (Finset.univ : Finset OwnK)
    (fun k => iprop(atPos ER (ownCell c k) 0 ∅ 0 ∗ reached ER (ownCell c k) 0)))
  unfold Pipeline.ownSems0
  iintro ⟨#HI, Ho, Hs⟩
  iapply (bigSep_with_persistent (R := invs v κ) (Φ := fun k : OwnK => iprop(openTok ER (ownCell c k) ∗ semVal (ownCell c k) 0)) fun k _ => by
    iintro ⟨#HI, Ho, Hs⟩
    iapply (Rounds.cell_open ER (Rd v) (g := ownCell c k) (Set.mem_univ (κ (ownCell c k))))
    isplitr; · iapply (inv_at v κ (own_mem c k)); iexact HI
    isplitl [Ho]; · iexact Ho
    iexact Hs)
  isplitr; · iexact HI
  iapply bigSep_pair
  isplitl [Ho]; · iexact Ho
  iexact Hs

theorem open_sealed : iprop(invs v κ ∗ sealed (F := F) c ∗ Pipeline.ownSems0 osem c) ⊢ (|={Set.univ}=> opened c : sProp 𝕄) := by
  unfold sealed
  iintro ⟨#HI, ⟨Hat, ⟨#Hp, #Hn⟩, Ho, Hh, Hc⟩, Hs⟩
  imod (open_own v κ c) $$ [Ho Hs] with H
  · isplitr; · iexact HI
    isplitl [Ho]; · iexact Ho
    iexact Hs
  ihave H := (Entails.of_eq (own_kinds fun k : OwnK => iprop(atPos ER (ownCell c k) 0 ∅ 0 ∗ reached ER (ownCell c k) 0))) $$ H
  unfold handed credits
  icases H with ⟨⟨Hx, Hh8⟩, ⟨Hs12, Hr⟩⟩
  icases Hh with ⟨⟨Ht1, Ht2⟩, ⟨⟨Htx, Hth⟩, ⟨Hts, Htr⟩⟩⟩
  icases Hc with ⟨Hcb, Hcr⟩
  ihave Hr := bigSep_unpair $$ Hr
  icases Hr with ⟨Hra, #Hrr⟩
  imodintro
  unfold opened
  isplitl [Ht1]
  · isplitl [Ht1]; · iexact Ht1
    iexact Hp
  isplitl [Ht2]
  · isplitl [Ht2]; · iexact Ht2
    iexact Hn
  isplitl [Hat]; · iexact Hat
  isplitl [Hcb]; · iexact Hcb
  isplitl [Hx Hh8 Htx Hth]
  · unfold ticket
    iapply bigSep_pair
    isplitl [Hx Htx]
    · ihave H := bigSep_unpair $$ Hx
      icases H with ⟨Ha, Hb⟩
      iapply bigSep_pair; isplitl [Ha]; · iexact Ha
      iapply bigSep_pair; isplitl [Hb]; · iexact Hb
      iexact Htx
    · ihave H := bigSep_unpair $$ Hh8
      icases H with ⟨Ha, Hb⟩
      iapply bigSep_pair; isplitl [Ha]; · iexact Ha
      iapply bigSep_pair; isplitl [Hb]; · iexact Hb
      iexact Hth
  isplitl [Hs12 Hts Htr Hra Hcr]
  · unfold ringTicket
    iapply bigSep_pair
    isplitl [Hs12 Hts Htr]
    · ihave H := bigSep_unpair $$ Hs12
      icases H with ⟨Ha, Hb⟩
      iapply bigSep_pair; isplitl [Ha]; · iexact Ha
      iapply bigSep_pair; isplitl [Hb]; · iexact Hb
      iapply bigSep_pair; isplitl [Hts]; · iexact Hts
      iexact Htr
    · iapply bigSep_pair; isplitl [Hra]; · iexact Hra
      iexact Hcr
  unfold marks
  iexact Hrr

/-- The semaphores the body leaves at zero are all of the device's own. -/
theorem own_zero : iprop((bigSep Finset.univ fun i : Fin 8 => iprop(semVal (xCell c i) 0 ∗ semVal (hCell c i) 0))
      ∗ (bigSep Finset.univ fun j : Fin 12 => iprop(semVal (sCell c j) 0 ∗ semVal (rCell c j) 0)))
    ⊢ (Pipeline.ownSems0 osem c : sProp 𝕄) := by
  unfold Pipeline.ownSems0
  rw [own_kinds, bigSep_sep', bigSep_sep']
  exact BI.Entails.refl _

end Cert.Conv

end
-- ==== Proof.Region.lean ====
/-
The kernel's region on one device: its buffers taken apart for the body and put together after it,
and the region's record, from the arrays before it to the arrays after it.
-/
module

public import proofs.«01_k».proof.Proof.Deal
public import proofs.«01_k».proof.Proof.Gen.KernelIdeal.Frame
public import Idealize.ShloMosaic.Lib.Pipeline.Kit
public import Idealize.ShloMosaic.Lib.Tactic

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

section Body

variable (v : Vals F) (c : Dev nD)

/-- The three scratch buffers, whole, at any contents. -/
def scratch : sProp 𝕄 := iprop(anyOf c xbM ∗ anyOf c hbM ∗ anyOf c cbM)
/-- The input, whole. -/
abbrev inputX : sProp 𝕄 := (c : Thread nD τ).loc main_v1 ↦{fullShare} v.x c

/-- The buffers taken apart: with the tickets, all the body starts with. -/
theorem begun_of : iprop(scratch (F := F) c ∗ inputX v c ∗ operands v c ∗ anyOf (F := F) c oM ∗ opened (F := F) c)
    ⊢ iprop(marks (F := F) c ∗ begun v c) := by
  unfold scratch opened inputX
  rw [xb_slots, hb_slots, cb_slots, out_cut]
  iintro ⟨⟨⟨Hx0, Hx1⟩, ⟨Hh0, Hh1⟩, ⟨Hc0, Hc1⟩, ⟨Hc2, Hc3⟩⟩, HX, Hop, Ho, Hb1, Hb2, Hb3, Hb4, Ht, Hq, Hm⟩
  ihave HX := (x_shares _ _).1 $$ HX
  icases HX with ⟨⟨Hs0, Hs1⟩, ⟨Hs2, Hs3⟩⟩
  isplitl [Hm]; · iexact Hm
  unfold begun idle anyOf
  isplitl [Hb1]; · iexact Hb1
  isplitl [Hb2]; · iexact Hb2
  isplitl [Hb3]; · iexact Hb3
  isplitl [Hb4]; · iexact Hb4
  isplitl [Hx0 Hh0 Hs0 Hs1]
  · isplitl [Hx0]; · iexact Hx0
    isplitl [Hh0]; · iexact Hh0
    isplitl [Hs0]; · iexact Hs0
    iexact Hs1
  isplitl [Hx1 Hh1 Hs2 Hs3]
  · isplitl [Hx1]; · iexact Hx1
    isplitl [Hh1]; · iexact Hh1
    isplitl [Hs2]; · iexact Hs2
    iexact Hs3
  isplitl [Hop]; · iexact Hop
  isplitl [Ho]; · iexact Ho
  isplitl [Hc0]; · iexact Hc0
  isplitl [Hc1]; · iexact Hc1
  isplitl [Hc2]; · iexact Hc2
  isplitl [Hc3]; · iexact Hc3
  isplitl [Ht]; · iexact Ht
  iexact Hq

/-- The buffers put together: all the body ends with. -/
theorem of_ended : ended v c
    ⊢ iprop(Owing (F := F) c 0 ∗ semVal (barCell c) 0 ∗ Pipeline.ownSems0 osem c ∗ scratch (F := F) c ∗ inputX v c ∗ operands v c
        ∗ owns (c : Thread nD τ) oM fullShare (assembled v)) := by
  unfold scratch inputX
  rw [xb_slots, hb_slots, cb_slots]
  unfold ended idle
  iintro ⟨HO, Hb, Hxh, Hsr, ⟨Hx0, Hh0, Hs0, Hs1⟩, ⟨Hx1, Hh1, Hs2, Hs3⟩, Hop, Ho, Hc0, Hc1, Hc2, Hc3⟩
  unfold anyOf
  isplitl [HO]; · iexact HO
  isplitl [Hb]; · iexact Hb
  isplitl [Hxh Hsr]
  · iapply (own_zero (F := F) c)
    isplitl [Hxh]; · iexact Hxh
    iexact Hsr
  isplitl [Hx0 Hx1 Hh0 Hh1 Hc0 Hc1 Hc2 Hc3]
  · isplitl [Hx0 Hx1]
    · isplitl [Hx0]; · iexact Hx0
      iexact Hx1
    isplitl [Hh0 Hh1]
    · isplitl [Hh0]; · iexact Hh0
      iexact Hh1
    isplitl [Hc0 Hc1]
    · isplitl [Hc0]; · iexact Hc0
      iexact Hc1
    isplitl [Hc2]; · iexact Hc2
    iexact Hc3
  isplitl [Hs0 Hs1 Hs2 Hs3]
  · iapply (x_shares _ _).2
    isplitl [Hs0 Hs1]
    · isplitl [Hs0]; · iexact Hs0
      iexact Hs1
    isplitl [Hs2]; · iexact Hs2
    iexact Hs3
  isplitl [Hop]; · iexact Hop
  iapply (out_join v c); iexact Ho

end Body

/-! ## The region's data -/

variable (m : (ℓ : Loc nD τ sig) → Buf (Elt F) ℓ)

/-- What every device computes from: its rows, its taps, its weights, as the region finds them. -/
def vals : Vals F := ⟨fun c => V m c main_v1, fun c => iblk m c 0 t0_0, fun c => iblk m c 1 t0_0⟩

/-- What the region's invariant starts with beside the buffers and ends with. -/
def Xk (c : Dev nD) : sProp 𝕄 := iprop((∃ κ, known (vals m) κ) ∗ opened (F := F) c)
def Yk (c : Dev nD) : sProp 𝕄 := semVal (barCell c) 0

/-- The region's invariant before the body and after it. -/
def before (c : Dev nD) : sProp 𝕄 := iprop(scratch (F := F) c ∗ (∃ r, prngReg c r) ∗ inputX (vals m) c ∗ Xk m c)
def after (c : Dev nD) : sProp 𝕄 := iprop(scratch (F := F) c ∗ (∃ r, prngReg c r) ∗ inputX (vals m) c ∗ Pipeline.ownSems0 osem c ∗ Yk c)

/-- The region's proof data: the windows' arrays as found; after the body the taps and the weights as they were, the output assembled. -/
def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => assembled (vals m)
  Φ t := if t.val = 0 then before m c else after m c
  q _ := fullShare
  owed t := if t.val = 0 then owing0 c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem taps_before (c : Dev nD) (t : Fin cfg0.N) (d) : (dat0 m c).before 0 t d = iblk m c 0 t :=
  ((dat0 m c).before_in_eq_fetched 0 rfl (fun _ => rfl) (fun _ _ _ => rfl) (fun t => by unfold Dat.blockOf; rfl) t d).trans
    (by unfold Dat.fetched Dat.blockOf iblk; rfl)
theorem weights_before (c : Dev nD) (t : Fin cfg0.N) (d) : (dat0 m c).before 1 t d = iblk m c 1 t :=
  ((dat0 m c).before_in_eq_fetched 1 rfl (fun _ => rfl) (fun _ _ _ => rfl) (fun t => by unfold Dat.blockOf; rfl) t d).trans
    (by unfold Dat.fetched Dat.blockOf iblk; rfl)

theorem owed_first (c : Dev nD) : (dat0 m c).owed t0_0.castSucc = owing0 c := by
  show (if (t0_0.castSucc : Fin (cfg0.N + 1)).val = 0 then owing0 c else 0) = owing0 c; exact if_pos rfl
theorem owed_zero (c : Dev nD) : (pdats m 0 c).owed 0 = owing0 c := by
  show (if (0 : Fin (cfg0.N + 1)).val = 0 then owing0 c else 0) = owing0 c; exact if_pos rfl
theorem owed_last (c : Dev nD) : (pdats m 0 c).owed (Fin.last _) = 0 := by
  show (if (Fin.last cfg0.N).val = 0 then owing0 c else 0) = 0
  rw [Fin.val_last, if_neg (by rw [show cfg0.N = 1 from N_0]; decide)]
theorem inv_zero (c : Dev nD) : (pdats m 0 c).Φ 0 = before m c := by
  show (if (0 : Fin (cfg0.N + 1)).val = 0 then before m c else after m c) = before m c; exact if_pos rfl
theorem inv_last (c : Dev nD) : (pdats m 0 c).Φ (Fin.last _) = after m c := by
  show (if (Fin.last cfg0.N).val = 0 then before m c else after m c) = after m c
  rw [Fin.val_last, if_neg (by rw [show cfg0.N = 1 from N_0]; decide)]

/-- A core's debt, spelt as the pipeline holds it. -/
theorem owesAt_of {c : Dev nD} (t : Fin (cfg0.N + 1)) (W : Waits sig Unit) :
    (owes (c : Thread nD τ) ((dat0 m c).owed t) W : sProp 𝕄) ⊢ (dat0 m c).owesAt () t := by
  unfold Dat.owesAt Pipeline.owesWithin
  iintro HO; iexists W; isplitr; · ipureintro; exact fun _ _ => Or.inl trivial
  iexact HO
theorem of_owesAt {c : Dev nD} (t : Fin (cfg0.N + 1)) :
    ((dat0 m c).owesAt () t : sProp 𝕄) ⊢ iprop(∃ W, owes (c : Thread nD τ) ((dat0 m c).owed t) W) := by
  unfold Dat.owesAt Pipeline.owesWithin
  iintro ⟨%W, -, HO⟩; iexists W; iexact HO

set_option maxRecDepth 8000 in
/-- The body, from the region's invariant and staging buffers before it to those after it. -/
theorem body_obligation (c : Dev nD) : BodyObligation (dat0 m c) (defs₀ (F := F)) 𝒱₀ () Set.univ := fun t => by
  obtain rfl := fin_N0 t
  rw [bigSep_W0, bigSep_W0]
  rw [show (dat0 m c).Φ t0_0.castSucc = before m c from inv_zero m c, show (dat0 m c).Φ t0_0.succ = after m c from inv_last m c]
  unfold before after Xk Yk
  iintro ⟨⟨Hs, Hr, HX, ⟨%κ, #HK⟩, Hop⟩, HO, ⟨%d0, H0⟩, ⟨%d1, H1⟩, ⟨%d2, H2⟩⟩
  ihave HO := (of_owesAt m t0_0.castSucc) $$ HO
  icases HO with ⟨%W, HO⟩
  rw [owed_first]
  rw [taps_before, weights_before]
  ihave HB := (begun_of (vals m) c) $$ [Hs HX Hop H0 H1 H2]
  · isplitl [Hs]; · iexact Hs
    isplitl [HX]; · iexact HX
    isplitl [H0 H1]
    · unfold operands
      isplitl [H0]
      · iapply (Entails.of_eq (owns_whole (c : Thread nD τ) cc0_stg0_0 fullShare _)); iexact H0
      · iapply (Entails.of_eq (owns_whole (c : Thread nD τ) cc0_stg1_0 fullShare _)); iexact H1
    isplitl [H2]; · unfold anyOf; iexists _; iexact H2
    iexact Hop
  icases HB with ⟨Hm, HB⟩
  iapply (run_body (vals m) κ c _ (W := W))
  isplitr; · iexact HK
  isplitl [Hm]; · iexact Hm
  isplitl [HO]; · iexact HO
  isplitl [HB]; · iexact HB
  iintro HE
  ihave HE := (of_ended (vals m) c) $$ HE
  unfold Owing operands
  icases HE with ⟨⟨%W', HO⟩, Hb, Hz, Hs, HX, ⟨H0, H1⟩, H2⟩
  isplitl [Hb Hz Hs HX Hr]
  · isplitl [Hs]; · iexact Hs
    isplitl [Hr]; · iexact Hr
    isplitl [HX]; · iexact HX
    isplitl [Hz]; · iexact Hz
    iexact Hb
  isplitl [HO]
  · iapply (owesAt_of m t0_0.succ W')
    iapply (Entails.of_eq (show _ = _ from congrArg (fun O => (owes (c : Thread nD τ) O W' : sProp 𝕄)) (owed_last m c).symm))
    iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  iexact H2

end Cert.Conv

end
-- ==== Proof.Run.lean ====
/-
The run: from any memory with zero counters, @main on the four devices ends with every argument as it was,
every device's result the assembled output, and every semaphore counter at zero.
-/
module

public import proofs.«01_k».proof.Proof.Region
public import Idealize.ShloMosaic.Lib.Pipeline.ValueKit.Geometry

@[expose] public section

noncomputable section

namespace Cert.Conv

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F] [∀ e, Nonempty (Elt F e)]

local notation "𝕄" => MT nD τ sig Unit (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg)

local notation "ℝ𝕊" => Pipeline.RegionSeg (pcfgs (F := F)) adm (pdats m) () defs₀ 𝒱₀ L lv

/-! ## The buffers outside the kernel -/

def bufs : Finset (DevRef τ sig) := (StableHlo.tcRefs τ sig).filter fun b => ¬ b.isScoped
/-- Those no window of the region names. -/
abbrev others : Finset (DevRef τ sig) := bufs \ Pipeline.arrRefs (τ := τ) spec0

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev at' (c : Dev nD) (b : Ref sig .tc) (f : b.ty.Contents (Elt F)) : sProp 𝕄 := ((c : Thread nD τ).loc b) ↦{fullShare} f

theorem bufs_eq (c : Dev nD) (W : Valuation τ sig (Elt F)) : (StableHlo.held (c : Thread nD τ) bufs W : sProp 𝕄)
    = iprop(at' c main_arg0 (W main_arg0) ∗ at' c main_arg1 (W main_arg1) ∗ at' c main_arg2 (W main_arg2)
        ∗ at' c main_v1 (W main_v1) ∗ at' c main_v2 (W main_v2) ∗ at' c main_v3 (W main_v3) ∗ at' c main_v4 (W main_v4)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4] (by decide) (by decide)]
  rfl

theorem arrs_sub : Pipeline.arrRefs (τ := τ) spec0 ⊆ bufs := by decide
theorem ops0_sub : ∀ op ∈ (hostOps0 : List (HloOp τ sig (Elt F))), op.bufs ⊆ bufs := fun op h => by
  simp only [List.mem_cons, List.mem_nil_iff, or_false] at h
  rcases h with rfl | rfl
  · show ({Proc.devRef .tc main_arg0, Proc.devRef .tc main_v1} : Finset (DevRef τ sig)) ⊆ bufs; decide
  · show ({Proc.devRef .tc main_arg2, Proc.devRef .tc main_v2} : Finset (DevRef τ sig)) ⊆ bufs; decide
theorem ops1_sub : ∀ op ∈ (hostOps1 : List (HloOp τ sig (Elt F))), op.bufs ⊆ bufs := fun op h => by
  simp only [List.mem_cons, List.mem_nil_iff, or_false] at h
  subst h
  show ({Proc.devRef .tc main_v3, Proc.devRef .tc main_v4} : Finset (DevRef τ sig)) ⊆ bufs; decide

/-- What every device's buffers hold after the region: the output assembled, the rest as before it. -/
def Vr (c : Dev nD) : Valuation τ sig (Elt F) := Function.update (V0 m c) (Proc.devRef .tc main_v3) (assembled (vals m))
theorem Vr_out (c : Dev nD) : Vr m c main_v3 = assembled (vals m) := Function.update_self ..
theorem Vr_ne (c : Dev nD) (b : DevRef τ sig) (h : b ≠ Proc.devRef .tc main_v3) : Vr m c b = V0 m c b := Function.update_of_ne h ..
/-- After the last reshape. -/
abbrev Vn (c : Dev nD) : Valuation τ sig (Elt F) := StableHlo.after hostOps1 (Vr m c)

/-- The region leaves the output array assembled. -/
theorem out_after (c : Dev nD) : (dat0 m c).arrAt 2 cfg0.N = assembled (vals m) :=
  (dat0 m c).arrAt_eq_of_after_last 2 t0_0 (by decide +kernel) _ (fun _ => rfl)

/-! ## The three segments -/

/-- What the launch leaves with a device for the kernel. -/
def Tk (c : Dev nD) : sProp 𝕄 := iprop((∃ κ, invs (vals m) κ) ∗ sealed (F := F) c)
/-- What rides beside the buffers up to the region. -/
def rides (c : Dev nD) : sProp 𝕄 := iprop(Tk m c ∗ (∃ r, prngReg c r) ∗ ∃ W, owes (c : Thread nD τ) (owing0 c) W)
/-- And after it. -/
def rest (c : Dev nD) : sProp 𝕄 := iprop(Yk (F := F) c ∗ ∃ W, owes (c : Thread nD τ) (0 : CellTallies nD τ sig Unit) W)

def seg0 : ℍ := Pipeline.HostSeg.ofOps _ _ _ _ _ bufs hostOps0 ops0_sub (List.forall_iff_forall_mem.mp hostOps0_fresh) (fun c b => m (c, b)) (rides m)
def seg2 : ℍ := Pipeline.HostSeg.ofOps _ _ _ _ _ bufs hostOps1 ops1_sub (List.forall_iff_forall_mem.mp hostOps1_fresh) (Vr m) rest

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hopen (c : Dev nD) : iprop(Tk m c ∗ Pipeline.ownSems0 osem c ∗ levAts L lv) ⊢ (|={Set.univ}=> Xk m c : sProp 𝕄) := by
  unfold Tk Xk
  iintro ⟨⟨⟨%κ, #HI⟩, Hs⟩, Hz, #Hlev⟩
  imod (open_sealed (vals m) κ c) $$ [Hs Hz] with H
  · isplitr; · iexact HI
    isplitl [Hs]; · iexact Hs
    iexact Hz
  imodintro
  isplitr
  · iexists κ
    unfold known
    unfold invs
    isplitr; · iexact HI
    iexact Hlev
  iexact H

theorem held_x (c : Dev nD) (W : Valuation τ sig (Elt F)) :
    (StableHlo.held (c : Thread nD τ) ({Proc.devRef .tc main_v1} : Finset (DevRef τ sig)) W : sProp 𝕄) = at' c main_v1 (W main_v1) := by
  unfold StableHlo.held; rw [bigSep_singleton]

theorem scratch_eq (c : Dev nD) :
    (Pipeline.scopedRest (Ix := Unit) (Name := ℕ) (U := UU) (Lvl := ℕ) (Val := Elt F) (Pipeline.pin (pcfgs (F := F)) adm 0).spec c : sProp 𝕄) = scratch c := by
  refine (scopedRest0_eq c).trans ?_
  unfold scratch; rw [anyOf_whole, anyOf_whole, anyOf_whole]

theorem hin (c : Dev nD) : iprop(Pipeline.scopedRest (Pipeline.pin (pcfgs (F := F)) adm 0).spec c ∗ (∃ r, prngReg c r)
      ∗ StableHlo.held (c.tc : Thread nD τ) {Proc.devRef .tc main_v1} (V0 m c) ∗ Xk m c) ⊢ (pdats m 0 c).Φ 0 := by
  rw [inv_zero, scratch_eq, held_x]; unfold before inputX vals; exact BI.Entails.refl _
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) {Proc.devRef .tc main_v1} (Vr m c) ∗ Pipeline.ownSems0 osem c ∗ Yk c) := by
  rw [inv_last, scratch_eq, held_x, Vr_ne m c (Proc.devRef .tc main_v1) (by decide)]; unfold after inputX vals; exact BI.Entails.refl _

/-- Whatever a device owes during the region sits above the staging cells' level. -/
theorem above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then owing0 c else 0 := rfl
  rw [e] at h
  split at h
  · rcases owing0_pos h with ⟨k, -, rfl⟩ | rfl | rfl
    · exact ⟨by rw [L_tc]; exact Finset.mem_singleton_self _, by
        show 0 < lvAt (.dma (rS (nextJ k))); rw [lv_r]; omega⟩
    · exact ⟨by rw [L_tc]; exact Finset.mem_singleton_self _, Nat.one_pos⟩
    · exact ⟨by rw [L_tc]; exact Finset.mem_singleton_self _, Nat.one_pos⟩
  · exact absurd h (Nat.lt_irrefl 0)

/-- The staging cells' own level is zero. -/
theorem staging_low : ∀ (w : Fin 3) (s : Fin (spec0 w).nbuf), lvAt (.dma ((spec0 w).sem s)) = 0 := by decide +kernel

set_option backward.isDefEq.respectTransparency.types false in
/-- The kernel's region. -/
def reg0 : ℝ𝕊 0 :=
  Pipeline.RegionSeg.ofTalk (pcfgs (F := F)) adm (pdats m) () defs₀ 𝒱₀ L lv 0 osem osem_facts
    {Proc.devRef .tc main_v1} others (by decide) kit rfl (fun c => (body_obligation m c).loose)
    (fun _ => 0) owing0 (fun c => (owed_zero m c).trans (zero_add _).symm) (owed_last m) (fun _ => rfl)
    (fun c w => (dat0 m c).share_full (fun _ => rfl) w)
    (V0 m) (Vr m) (fun c b hb => Vr_ne m c b (by rintro rfl; revert hb; decide))
    (Tk m) Yk (Xk m) Yk (hopen m) (hin m) (hout m)
    (fun c => by iintro H; imodintro; iexact H)
    (fun _ => 0)
    ⟨fun c w s => by rw [L_tc]; exact Finset.mem_singleton_self _, fun c w s => (staging_low w s).le, fun c t g i h => above m c t g i h⟩
    (fun _ => iprop(emp))
    (fun c w => rfl)
    (fun c w => by
      fin_cases w
      · exact ((dat0 m c).arrAt_in 0 rfl _).trans (Vr_ne m c (Proc.devRef .tc main_arg1) (by decide)).symm
      · exact ((dat0 m c).arrAt_in 1 rfl _).trans (Vr_ne m c (Proc.devRef .tc main_v2) (by decide)).symm
      · exact (out_after m c).trans (Vr_out m c).symm)

theorem reg0_pre (c : Dev nD) : (seg0 m).post c ⊢ (reg0 m).pre c := by
  show iprop(StableHlo.held (c.tc : Thread nD τ) bufs (V0 m c) ∗ rides m c)
    ⊢ iprop(StableHlo.held (c.tc : Thread nD τ) (Pipeline.arrRefs (τ := τ) spec0) (V0 m c) ∗ (∃ r, prngReg c r)
    ∗ (StableHlo.held (c.tc : Thread nD τ) others (V0 m c) ∗ emp) ∗ Tk m c ∗ ∃ Wd, owes (c : Thread nD τ) (0 + owing0 c) Wd)
  rw [StableHlo.held_sub_split (c.tc : Thread nD τ) arrs_sub (V0 m c), zero_add]
  unfold rides
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c ⊢ (seg2 m).pre c := by
  show iprop(StableHlo.held (c.tc : Thread nD τ) (Pipeline.arrRefs (τ := τ) spec0) (Vr m c) ∗ (∃ r, prngReg c r)
      ∗ (StableHlo.held (c.tc : Thread nD τ) others (Vr m c) ∗ emp) ∗ Yk (F := F) c ∗ ∃ Wd, owes (c : Thread nD τ) (0 : CellTallies nD τ sig Unit) Wd)
    ⊢ iprop(StableHlo.held (c.tc : Thread nD τ) bufs (Vr m c) ∗ rest (F := F) c)
  rw [StableHlo.held_sub_split (c.tc : Thread nD τ) arrs_sub (Vr m c)]
  unfold rest
  iintro ⟨Ha, -, ⟨Ho, -⟩, Hb, HO⟩
  isplitl [Ha Ho]
  · isplitl [Ha]; · iexact Ha
    iexact Ho
  isplitl [Hb]; · iexact Hb
  iexact HO

/-- @main as its three segments. -/
def segs : List (Pipeline.Seg (pcfgs (F := F)) adm (pdats m) () defs₀ 𝒱₀ L lv) := [.host (seg0 m), .region (reg0 m), .host (seg2 m)]
theorem main_eq (c : Dev nD) : main (F := F) c = Pipeline.Seg.run (segs m) := main_segs adm (pdats m) () 𝒱₀ L lv (seg0 m) (seg2 m) (reg0 m) rfl rfl c

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

def u₀ : UU :=
  (initOf (Pipeline.cells (Pipeline.pin (pcfgs (F := F)) adm) cellOf_inj) (Pipeline.launchToks (Pipeline.pin (pcfgs (F := F)) adm) cellOf_inj),
    launchOf barCells dmaCells allToks)
/-- The protocol's launch element, all of it with the first device until it is dealt. -/
def element : sProp 𝕄 := BI.own (ER (launchOf barCells dmaCells allToks))
def G (c : Dev nD) : sProp 𝕄 := if c = 0 then element else iprop(emp)
theorem bigSep_G : bigSep Finset.univ (G (F := F)) = element := by
  rw [bigSep_univ_at _ 0, bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and that every barrier is in its first round. -/
def records (κ : GSem nD τ sig → ℕ) : sProp 𝕄 := iprop(invs (vals m) κ ∗ bigSep Finset.univ fun c : Dev nD => reached ER (barCell c) 0)
instance records_persistent (κ : GSem nD τ sig → ℕ) : BI.Persistent (records m κ) := by unfold records; infer_instance
theorem reached_at (c : Dev nD) : (bigSep Finset.univ fun d : Dev nD => (reached ER (barCell d) 0 : sProp 𝕄)) ⊢ reached ER (barCell c) 0 :=
  bigSep_elim (Finset.mem_univ c)
/-- What each alone holds of the protocol. -/
def share (c : Dev nD) : sProp 𝕄 :=
  iprop(atPos ER (barCell c) 0 ∅ 0 ∗ (bigSep Finset.univ fun k : OwnK => openTok ER (ownCell c k)) ∗ handed (F := F) c)
/-- And of the machine. -/
def bundle (c : Dev nD) : sProp 𝕄 :=
  iprop(StableHlo.held (c : Thread nD τ) bufs (fun b => m (c, b)) ∗ credits (F := F) c ∗ owes (c : Thread nD τ) (owing0 c) ∅ ∗ ∃ r, prngReg c r)

theorem starts (κ : GSem nD τ sig → ℕ) (c : Dev nD) : iprop(records m κ ∗ (share (F := F) c ∗ bundle m c)) ⊢ (seg0 m).pre c := by
  show _ ⊢ iprop(StableHlo.held (c.tc : Thread nD τ) bufs (fun b => m (c, b)) ∗ rides m c)
  unfold records share bundle rides Tk sealed
  iintro ⟨⟨#HI, #HR⟩, ⟨Hat, Ho, Hh⟩, Hb, Hc, HO, Hp⟩
  isplitl [Hb]; · iexact Hb
  isplitl [Hat Ho Hh Hc]
  · isplitr; · iexists κ; iexact HI
    isplitl [Hat]; · iexact Hat
    isplitr
    · isplitr
      · iapply (reached_at (F := F) (prv c)); iexact HR
      · iapply (reached_at (F := F) (nxt c)); iexact HR
    isplitl [Ho]; · iexact Ho
    isplitl [Hh]; · iexact Hh
    iexact Hc
  isplitl [Hp]; · iexact Hp
  iexists ∅; iexact HO

theorem bars_map (Φ : GSem nD τ sig → sProp 𝕄) : bigSep barCells Φ = bigSep Finset.univ fun c : Dev nD => Φ (barCell c) := by
  rw [barCells_eq, bigSep_map]; rfl
theorem owns_map (Φ : GSem nD τ sig → sProp 𝕄) :
    bigSep dmaCells Φ = bigSep Finset.univ fun c : Dev nD => bigSep Finset.univ fun k : OwnK => Φ (ownCell c k) := by
  rw [dmaCells_eq, bigSep_map, bigSep_univ_prod]; rfl

/-- What a device is launched with, apart from the protocol's element and its barrier's counter. -/
theorem launched (c : Dev nD) : iprop(unscopedBufs c (fun b => m ((c : Thread nD τ).loc b)) ∗ unscopedSems0 c
      ∗ owes (c : Thread nD τ) (owing0 c) ∅ ∗ Pipeline.launchCred owing0 c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (fun b => m (c, b)) from
    unscopedBufs_held c (fun b => m (c, b)), unscopedSems0_eq]
  unfold bundle
  iintro ⟨Hh, Hb, HO, Hc, Hp, HG⟩
  isplitl [Hh HO Hc Hp]
  · isplitl [Hh]; · iexact Hh
    isplitl [Hc]; · iapply (credits_dealt (F := F) c); iexact Hc
    isplitl [HO]; · iexact HO
    iexists (ρ c); iexact Hp
  isplitl [Hb]; · iexact Hb
  iexact HG

/-- The launch: every cell put under its invariant, and every token and credit dealt. -/
theorem init :
    iprop((bigSep Finset.univ fun c : Dev nD => iprop(unscopedBufs c (fun b => m ((c : Thread nD τ).loc b)) ∗ unscopedSems0 c
          ∗ owes (c : Thread nD τ) (owing0 c) ∅ ∗ Pipeline.launchCred owing0 c ∗ prngReg c (ρ c) ∗ G c)) ∗ levAts L lv)
      ⊢ (|={Set.univ}=> bigSep Finset.univ (seg0 m).pre : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (owing0 c) ∅ ∗ Pipeline.launchCred owing0 c ∗ prngReg c (ρ c) ∗ G c))
      ⊢ (bigSep Finset.univ fun c : Dev nD => iprop(bundle m c ∗ (semVal (barCell c) 0 ∗ G c)) : sProp 𝕄) from bigSep_mono fun c _ => launched m ρ c) $$ H
  ihave H := bigSep_unpair $$ H; icases H with ⟨HB, H⟩
  ihave H := bigSep_unpair $$ H; icases H with ⟨Hv, HG⟩
  ihave HG := (Entails.of_eq (bigSep_G (F := F))) $$ HG
  unfold element
  imod (Rounds.fund_launch ER (Rd (vals m)) cells_disjoint (fun g _ h => h) allToks) $$ [Hv HG] with ⟨%κ, -, #Hinv, #Hr, Hat, Hopen, Htok⟩
  · isplitl [Hv]
    · iapply (Entails.of_eq (bars_map (F := F) fun g => semVal g 0).symm); iexact Hv
    · iexact HG
  imodintro
  iapply (bigSep_with_persistent (R := records m κ) (Φ := fun c => iprop(share (F := F) c ∗ bundle m c)) fun c _ => starts m κ c)
  isplitr
  · unfold records invs
    isplitr; · iexact Hinv
    iapply (Entails.of_eq (bars_map (F := F) fun g => reached ER g 0)); iexact Hr
  iapply bigSep_pair
  isplitr [HB]
  · unfold share
    iapply bigSep_pair
    isplitl [Hat]; · iapply (Entails.of_eq (bars_map (F := F) fun g => atPos ER g 0 ∅ 0)); iexact Hat
    iapply bigSep_pair
    isplitl [Hopen]; · iapply (Entails.of_eq (owns_map (F := F) fun g => openTok ER g)); iexact Hopen
    iapply (minted_handed (F := F))
    iapply (Entails.of_eq (toks_minted (F := F))); iexact Htok
  · iexact HB

/-! ## The run -/

theorem Vn_out (c : Dev nD) : Vn m c main_v4 = shapeCast S2x4096x1024 (assembled (vals m)) shapeCasts_S8192x1024_S2x4096x1024 := by
  show (StableHlo.reshape main_v3 main_v4 (rfl : (.bf16 : EltTy) = .bf16) shapeCasts_S8192x1024_S2x4096x1024).result (Vr m c) (Proc.devRef .tc main_v4) = _
  rw [StableHlo.reshape_result', Vr_out]; rfl
theorem Vn_ne (c : Dev nD) (b : Ref sig .tc) (h : b ≠ main_v4) (h' : Proc.devRef .tc b ≠ Proc.devRef (τ := τ) .tc main_v3) : Vn m c b = V m c b := by
  show (StableHlo.reshape main_v3 main_v4 (rfl : (.bf16 : EltTy) = .bf16) shapeCasts_S8192x1024_S2x4096x1024).result (Vr m c) (Proc.devRef .tc b) = _
  rw [StableHlo.reshape_result_ne' (h := h), Vr_ne m c _ h']

set_option backward.isDefEq.respectTransparency.types false in
/-- Every fair execution of @main on the four devices ends, with every argument as launched, the result the
    assembled output on every device, and every semaphore counter at zero. -/
theorem run_main : θ_run defs (onTc (τ := τ) (main (F := F))) ⟨m, fun _ => 0, ρ⟩
    (fun r => (∀ c : Dev nD, r.2.mem ((c : Thread nD τ).loc main_v4) = shapeCast S2x4096x1024 (assembled (vals m)) shapeCasts_S8192x1024_S2x4096x1024
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owing0) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (bigSep_G (F := F)).symm); unfold element; iexact HX)
    (T₀ := (seg0 m).pre) (Tₙ := fun c => iprop(StableHlo.held (c : Thread nD τ) bufs (Vn m c) ∗ semVal (barCell c) 0))
    (hch := by
      refine ⟨fun c => .rfl, fun c => reg0_pre m c, fun c => reg0_post m c, fun c => ?_⟩
      show iprop(StableHlo.held (c : Thread nD τ) bufs (Vn m c) ∗ rest (F := F) c)
        ⊢ iprop((StableHlo.held (c : Thread nD τ) bufs (Vn m c) ∗ semVal (barCell c) 0) ∗ ∃ W, owes (c : Thread nD τ) (0 : CellTallies nD τ sig Unit) W)
      unfold rest Yk
      iintro ⟨Hh, Hb, HO⟩
      isplitr [HO]
      · isplitl [Hh]; · iexact Hh
        iexact Hb
      · iexact HO)
    (hinit := init m ρ)
    (QY := fun c s => (s.mem ((c : Thread nD τ).loc main_v4) = Vn m c main_v4 ∧ s.mem ((c : Thread nD τ).loc main_arg0) = Vn m c main_arg0
      ∧ s.mem ((c : Thread nD τ).loc main_arg1) = Vn m c main_arg1 ∧ s.mem ((c : Thread nD τ).loc main_arg2) = Vn m c main_arg2)
      ∧ s.sem (barCell c) = 0)
    (hfin := fun c s' => by
      rw [bufs_eq]
      iintro ⟨⟨⟨H0, H1, H2, -, -, -, H4⟩, Hb⟩, HSI⟩
      icombine HSI H0 gives %h0
      icombine HSI H1 gives %h1
      icombine HSI H2 gives %h2
      icombine HSI H4 gives %h4
      icombine HSI Hb gives %hb
      imodintro
      isplitr
      · ipureintro
        exact ⟨⟨Buf.eq_of_forall_mem_univ h4, Buf.eq_of_forall_mem_univ h0, Buf.eq_of_forall_mem_univ h1, Buf.eq_of_forall_mem_univ h2⟩, by simpa using hb⟩
      iexact HSI)
    (hQ := fun s h hs => ⟨fun c => by
        obtain ⟨⟨h4, h0, h1, h2⟩, -⟩ := h c
        exact ⟨h4.trans (Vn_out m c), h0.trans ((Vn_ne m c main_arg0 (by decide) (by decide)).trans (V_main_arg0 m c)),
          h1.trans ((Vn_ne m c main_arg1 (by decide) (by decide)).trans (V_main_arg1 m c)),
          h2.trans ((Vn_ne m c main_arg2 (by decide) (by decide)).trans (V_main_arg2 m c))⟩,
      sem_eq_zero hs fun c sm hsm => by
        obtain rfl := unscoped_eq sm hsm
        exact (h c).2⟩)

end Cert.Conv

end
-- ==== Proof.Math.lean ====
/-
The problem's mathematics over the extended reals, by coordinates: the causal convolution of
four taps, the activation, and the product with the weight.
-/
module

public import Idealize.ShloMosaic.Lib.Pointwise

@[expose] public section

noncomputable section

namespace Cert.Conv

open Idealize.ShloMosaic

/-- The activation `z / (1 + e^(-z))`. -/
def act (z : EReal) : EReal := Ideal.div z (1 + Ideal.exp (-z))

theorem exp_nonneg (z : EReal) : 0 ≤ Ideal.exp z := by
  induction z using EReal.rec with
  | bot => simp
  | top => simp
  | coe r => rw [Ideal.exp_coe]; exact_mod_cast (Real.exp_pos r).le

/-- The activation is the product with the logistic function. -/
theorem mul_logistic (z : EReal) : z * Ideal.logistic z = act z := by
  have h : (1 : EReal) + Ideal.exp (-z) ≠ 0 := by
    have h0 : (0 : EReal) < 1 + Ideal.exp (-z) :=
      lt_of_lt_of_le zero_lt_one (le_add_of_nonneg_right (exp_nonneg _))
    exact h0.ne'
  unfold act Ideal.logistic Ideal.div
  rw [if_neg h, if_neg h, one_mul]

/-- The whole input, taps, and weight. -/
abbrev Xs : Type := (⟨3, ![2, 4096, 4096]⟩ : Shape).Idx → EReal
abbrev Ks : Type := (⟨2, ![4, 4096]⟩ : Shape).Idx → EReal
abbrev Ws : Type := (⟨2, ![4096, 1024]⟩ : Shape).Idx → EReal

variable (X : Xs) (K : Ks) (W : Ws)

/-- The input that tap `u` meets at row `s`: row `s + u - 3`, and zero before the first row. -/
def rowAt (b : Fin 2) (s : Fin 4096) (u : Fin 4) (ch : Fin 4096) : EReal :=
  if h : u.val + s.val < 3 then 0 else X (ix3 b ⟨u.val + s.val - 3, by omega⟩ ch)

/-- The convolution at row `s` of batch `b`, in channel `ch`. -/
def convAt (b : Fin 2) (s : Fin 4096) (ch : Fin 4096) : EReal := ∑ u : Fin 4, rowAt X b s u ch * K (ix2 u ch)

/-- The result at row `s` of batch `b`, in column `p`. -/
def resultAt (b : Fin 2) (s : Fin 4096) (p : Fin 1024) : EReal := ∑ ch : Fin 4096, act (convAt X K b s ch) * W (ix2 ch p)

/-- The result's share of the 1024 channels that device `c` holds. -/
def shareAt (c : Fin 4) (b : Fin 2) (s : Fin 4096) (p : Fin 1024) : EReal :=
  ∑ j : Fin 1024, act (convAt X K b s ⟨c.val * 1024 + j.val, by omega⟩) * W (ix2 ⟨c.val * 1024 + j.val, by omega⟩ p)

/-- The four shares make up the result. -/
theorem sum_shares (b : Fin 2) (s : Fin 4096) (p : Fin 1024) : ∑ c : Fin 4, shareAt X K W c b s p = resultAt X K W b s p := by
  exact (Fin.sum_univ_tiles 4 1024 rfl fun ch : Fin 4096 => act (convAt X K b s ch) * W (ix2 ch p)).symm

end Cert.Conv

end
-- ==== Proof.RefValue.lean ====
/-
What the reference computes, read at an index.
-/
module

public import proofs.«01_k».proof.Proof.Math
public import proofs.«01_k».proof.Proof.Gen.ReferenceIdeal.Run

@[expose] public section

noncomputable section

namespace Cert.Conv

open Idealize.ShloMosaic Idealize.ShloMosaic.TcCoe
open Cert.ReferenceIdeal Cert.ReferenceIdeal.Gen

/-- The reference's input with three rows of zeros before it. -/
def refPad (X : FVec Ideal S2x4096x4096 .f32) : FVec Ideal S2x4099x4096 .f32 :=
  concatenate S2x4099x4096 1 [⟨S2x3x4096, (broadcastInDim S2x3x4096 ![] bcast_S_S2x3x4096 (constant S_ .f32 0x00000000#32) : FVec Ideal S2x3x4096 .f32)⟩,
    ⟨S2x4096x4096, X⟩] concatenates_S2x3x4096_S2x4096x4096_S2x4099x4096_d1

/-- One row of its taps, repeated over all rows of the input. -/
def refTap (k : FVec Ideal S1x4096 .f32) : FVec Ideal S2x4096x4096 .f32 :=
  broadcastInDim S2x4096x4096 ![0, 1, 2] bcast_S1x1x4096_S2x4096x4096_0_1_2
    (broadcastInDim S1x1x4096 ![2] bcast_S4096_S1x1x4096_2 (shapeCast S4096 k shapeCasts_S1x4096_S4096))

/-- Its convolution. -/
def refConv (X : FVec Ideal S2x4096x4096 .f32) (K : FVec Ideal S4x4096 .f32) : FVec Ideal S2x4096x4096 .f32 :=
  addf (addf (addf (addf (broadcastInDim S2x4096x4096 ![] bcast_S_S2x4096x4096 (constant S_ .f32 0x00000000#32))
    (mulf (extractStridedSlice S2x4096x4096 ![0, 0, 0] (refPad X) slices_S2x4099x4096_S2x4096x4096_0_0_0)
      (refTap (extractStridedSlice S1x4096 ![0, 0] K slices_S4x4096_S1x4096_0_0))))
    (mulf (extractStridedSlice S2x4096x4096 ![0, 1, 0] (refPad X) slices_S2x4099x4096_S2x4096x4096_0_1_0)
      (refTap (extractStridedSlice S1x4096 ![1, 0] K slices_S4x4096_S1x4096_1_0))))
    (mulf (extractStridedSlice S2x4096x4096 ![0, 2, 0] (refPad X) slices_S2x4099x4096_S2x4096x4096_0_2_0)
      (refTap (extractStridedSlice S1x4096 ![2, 0] K slices_S4x4096_S1x4096_2_0))))
    (mulf (extractStridedSlice S2x4096x4096 ![0, 3, 0] (refPad X) slices_S2x4099x4096_S2x4096x4096_0_3_0)
      (refTap (extractStridedSlice S1x4096 ![3, 0] K slices_S4x4096_S1x4096_3_0)))

/-- Its result, of the convolution `z`. -/
def refOut (z : FVec Ideal S2x4096x4096 .f32) (W : FVec Ideal S4096x1024 .f32) : FVec Ideal S2x4096x1024 .bf16 :=
  truncf .bf16 (Host.dotGeneral dot_S2x4096x4096_S4096x1024_S2x4096x1024_2_0_01_1_n_n none
    (Host.divf z (addf (broadcastInDim S2x4096x4096 ![] bcast_S_S2x4096x4096 (constant S_ .f32 0x3F800000#32)) (Host.exp (Host.negf z)))) W) bitsLt_bf16_f32

theorem refPad_apply (X : FVec Ideal S2x4096x4096 .f32) (b : Fin 2) (t : Fin 4099) (ch : Fin 4096) :
    refPad X (ix3 b t ch) = if h : t.val < 3 then 0 else X (ix3 b ⟨t.val - 3, by omega⟩ ch) := by
  pointwise [refPad]

theorem refTap_apply (k : FVec Ideal S1x4096 .f32) (b : Fin 2) (s : Fin 4096) (ch : Fin 4096) :
    refTap k (ix3 b s ch) = k (ix2 0 ch) := by
  pointwise [refTap]

/-- The reference's convolution at an index. -/
theorem refConv_apply (X : FVec Ideal S2x4096x4096 .f32) (K : FVec Ideal S4x4096 .f32) (b : Fin 2) (s : Fin 4096) (ch : Fin 4096) :
    refConv X K (ix3 b s ch) = convAt X K b s ch := by
  unfold refConv convAt
  rw [Fin.sum_univ_four]
  pointwise [refTap_apply, refPad_apply, rowAt]

/-- The reference's result at an index. -/
theorem refOut_apply (z : FVec Ideal S2x4096x4096 .f32) (W : FVec Ideal S4096x1024 .f32) (b : Fin 2) (s : Fin 4096) (p : Fin 1024) :
    refOut z W (ix3 b s p) = ∑ ch : Fin 4096, act (z (ix3 b s ch)) * W (ix2 ch p) := by
  pointwise [refOut, act]

/-- The generated run's term is this one. -/
theorem res_eq (m : (ℓ : Loc nD τ sig) → Buf (Elt Ideal) ℓ) (c : Dev nD) :
    Cert.ReferenceIdeal.Value.res_main_v37 m c
      = refOut (refConv (m ((c.tc : Thread nD τ).loc main_arg0)) (m ((c.tc : Thread nD τ).loc main_arg1))) (m ((c.tc : Thread nD τ).loc main_arg2)) := by
  unfold Cert.ReferenceIdeal.Value.res_main_v37
  rfl

/-- The reference computes the problem's mathematics. -/
theorem ref_value (m : (ℓ : Loc nD τ sig) → Buf (Elt Ideal) ℓ) (c : Dev nD) (b : Fin 2) (s : Fin 4096) (p : Fin 1024) :
    (show FVec Ideal S2x4096x1024 .bf16 from Cert.ReferenceIdeal.Value.res_main_v37 m c) (ix3 b s p)
      = resultAt (m ((c.tc : Thread nD τ).loc main_arg0)) (m ((c.tc : Thread nD τ).loc main_arg1)) (m ((c.tc : Thread nD τ).loc main_arg2)) b s p := by
  rw [res_eq]
  refine (refOut_apply _ _ b s p).trans ?_
  unfold resultAt
  exact Finset.sum_congr rfl fun ch _ => by rw [refConv_apply]

end Cert.Conv

end
-- ==== Proof.KernelValue.lean ====
/-
What one device contributes to a chunk, over the extended reals, read at an index.
-/
module

public import proofs.«01_k».proof.Proof.Math
public import proofs.«01_k».proof.Proof.Values

@[expose] public section

noncomputable section

namespace Cert.Conv

open Cert.KernelIdeal Cert.KernelIdeal.Gen
open Idealize.ShloMosaic
open Idealize.ShloMosaic.TcCoe

/-- Whether a chunk begins a batch, as the kernel asks it. -/
theorem begins_batch (r : Fin 8) :
    Scalar.cmpi .eq (Scalar.remsi (rowWord r) 4096#32) 0#32 = if r.val % 4 = 0 then 1#1 else 0#1 := by
  revert r; decide

/-- The three rows before a chunk. -/
theorem lead_apply (r : Fin 8) (H : FVec Ideal S8x1024 .f32) (q : Fin 3) (j : Fin 1024) :
    lead (rowWord r) H (ix2 q j) = if r.val % 4 = 0 then 0 else H (ix2 ⟨5 + q.val, by omega⟩ j) := by
  unfold lead
  rw [begins_batch]
  split
  · rw [ValueIdx.select_one]
    pointwise [Scalar.ofBits]
  · rw [ValueIdx.select_zero]
    pointwise

/-- Row `t` of the window: of the three rows before the chunk, or of the chunk. -/
theorem window_apply (r : Fin 8) (X : FVec Ideal S1024x1024 .f32) (H : FVec Ideal S8x1024 .f32) (t : Fin 1027) (j : Fin 1024) :
    window (rowWord r) X H (ix2 t j)
      = if h : t.val < 3 then (if r.val % 4 = 0 then 0 else H (ix2 ⟨5 + t.val, by omega⟩ j)) else X (ix2 ⟨t.val - 3, by omega⟩ j) := by
  pointwise [window, lead_apply]

theorem tap_apply (k : Vec Ideal S1x1024 .f32) (i j : Fin 1024) : tap k (ix2 i j) = k (ix2 0 j) := by
  pointwise [tap]

/-- The convolution of a window. -/
theorem convOf_apply (x : FVec Ideal S1027x1024 .f32) (k3 k0 k1 k2 : Vec Ideal S1x1024 .f32) (i j : Fin 1024) :
    convOf x k3 k0 k1 k2 (ix2 i j)
      = x (ix2 ⟨0 + i.val, by omega⟩ j) * k0 (ix2 0 j) + x (ix2 ⟨1 + i.val, by omega⟩ j) * k1 (ix2 0 j)
        + x (ix2 ⟨2 + i.val, by omega⟩ j) * k2 (ix2 0 j) + x (ix2 ⟨3 + i.val, by omega⟩ j) * k3 (ix2 0 j) := by
  pointwise [convOf, tap_apply]
  abel

/-- The contribution, of the convolution that it starts from. -/
theorem partialOf_apply (w : BitVec 32) (X : FVec Ideal S1024x1024 .f32) (H : FVec Ideal S8x1024 .f32) (k3 k0 k1 k2 : Vec Ideal S1x1024 .f32)
    (W : Vec Ideal S1024x1024 .bf16) (i p : Fin 1024) :
    partialOf w X H k3 k0 k1 k2 W (ix2 i p)
      = ∑ j : Fin 1024, act (convOf (window w X H) k3 k0 k1 k2 (ix2 i j)) * W (ix2 j p) := by
  pointwise [partialOf, mul_logistic]

/-- A chunk of the input, at an index. -/
theorem inC_apply (X : S8192x1024.Idx → EReal) (r : Fin 8) (i j : Fin 1024) :
    (inC r).view.read (Elt Ideal) X (ix2 i j) = X (ix2 ⟨1024 * r.val + i.val, by omega⟩ j) := by
  refine congrArg X (funext fun a => Fin.ext ?_)
  match a with
  | 0 => exact congrArg (1024 * r.val + ·) (Nat.one_mul i.val)
  | 1 => exact (Nat.zero_add _).trans (Nat.one_mul j.val)

/-- The eight rows before it, at an index. -/
theorem inH_apply (X : S8192x1024.Idx → EReal) (r : Fin 8) (i : Fin 8) (j : Fin 1024) :
    (inH r).view.read (Elt Ideal) X (ix2 i j) = X (ix2 ⟨1024 * r.val - 8 + i.val, by omega⟩ j) := by
  refine congrArg X (funext fun a => Fin.ext ?_)
  match a with
  | 0 => exact congrArg (1024 * r.val - 8 + ·) (Nat.one_mul i.val)
  | 1 => exact (Nat.zero_add _).trans (Nat.one_mul j.val)

/-- A row of the taps. -/
theorem taps_apply (K : S4x1024.Idx → EReal) (u : Fin 4) (h : ∀ a, (![u.val, 0] : Fin 2 → ℕ) a + S1x1024.size a ≤ S4x1024.size a) (j : Fin 1024) :
    kM.view.readAt (Elt Ideal) (tapR ![u.val, 0] h).toLoadRect K (ix2 0 j) = K (ix2 u j) := by
  refine congrArg K (funext fun a => Fin.ext ?_)
  match a with
  | 0 => rfl
  | 1 => exact (Nat.zero_add _).trans (Nat.one_mul j.val)

/-- The whole weight. -/
theorem weight_apply (W : S1024x1024.Idx → EReal) (i j : Fin 1024) :
    wM.view.readAt (Elt Ideal) allR.toLoadRect W (ix2 i j) = W (ix2 i j) := by
  refine congrArg W (funext fun a => Fin.ext ?_)
  match a with
  | 0 => exact (Nat.zero_add _).trans (Nat.one_mul i.val)
  | 1 => exact (Nat.zero_add _).trans (Nat.one_mul j.val)

variable (v : Vals Ideal)

/-- What tap `u` meets at row `i` of chunk `r` on device `c`: row `1024 r + i + u - 3`, and zero before a batch. -/
def metAt (c : Dev nD) (r : Fin 8) (i : Fin 1024) (u : Fin 4) (j : Fin 1024) : EReal :=
  if h : r.val % 4 * 1024 + i.val + u.val < 3 then 0 else (v.x c : S8192x1024.Idx → EReal) (ix2 ⟨1024 * r.val + i.val + u.val - 3, by omega⟩ j)

/-- The window of chunk `r` at row `u + i`. -/
theorem window_met (c : Dev nD) (r : Fin 8) (i : Fin 1024) (u : Fin 4) (j : Fin 1024) :
    window (F := Ideal) (rowWord r) ((inC r).view.read (Elt Ideal) (v.x c)) ((inH r).view.read (Elt Ideal) (v.x c)) (ix2 ⟨u.val + i.val, by omega⟩ j)
      = metAt v c r i u j := by
  rw [window_apply]
  unfold metAt
  by_cases h : u.val + i.val < 3
  · rw [dif_pos h]
    by_cases h4 : r.val % 4 = 0
    · rw [if_pos h4, dif_pos (by omega)]
    · rw [if_neg h4, dif_neg (by omega)]
      refine (inH_apply _ r _ j).trans (congrArg (v.x c : S8192x1024.Idx → EReal) (congrArg (fun q => ix2 q j) (Fin.ext ?_)))
      show 1024 * r.val - 8 + (5 + (u.val + i.val)) = 1024 * r.val + i.val + u.val - 3
      omega
  · rw [dif_neg h, dif_neg (by omega)]
    refine (inC_apply _ r _ j).trans (congrArg (v.x c : S8192x1024.Idx → EReal) (congrArg (fun q => ix2 q j) (Fin.ext ?_)))
    show 1024 * r.val + (u.val + i.val - 3) = 1024 * r.val + i.val + u.val - 3
    omega

/-- Device `c`'s contribution to chunk `r` at row `i` and column `p`. -/
theorem part_apply (c : Dev nD) (r : Fin 8) (i p : Fin 1024) :
    part v c r (ix2 i p)
      = ∑ j : Fin 1024, act (∑ u : Fin 4, metAt v c r i u j * (v.k c : S4x1024.Idx → EReal) (ix2 u j)) * (v.w c : S1024x1024.Idx → EReal) (ix2 j p) := by
  unfold part
  rw [partialOf_apply]
  refine Finset.sum_congr rfl fun j _ => ?_
  rw [convOf_apply, Fin.sum_univ_four]
  have e0 := window_met v c r i 0 j
  have e1 := window_met v c r i 1 j
  have e2 := window_met v c r i 2 j
  have e3 := window_met v c r i 3 j
  have t0 := taps_apply (v.k c) 0 inb_S4x1024_S1x1024_0_0 j
  have t1 := taps_apply (v.k c) 1 inb_S4x1024_S1x1024_1_0 j
  have t2 := taps_apply (v.k c) 2 inb_S4x1024_S1x1024_2_0 j
  have t3 := taps_apply (v.k c) 3 inb_S4x1024_S1x1024_3_0 j
  refine congrArg₂ (fun a b : EReal => a * b) (congrArg act ?_) (weight_apply (v.w c) j p)
  exact congrArg₂ (fun a b : EReal => a + b) (congrArg₂ (fun a b : EReal => a + b) (congrArg₂ (fun a b : EReal => a + b)
    (congrArg₂ (fun a b : EReal => a * b) e0 t0) (congrArg₂ (fun a b : EReal => a * b) e1 t1))
    (congrArg₂ (fun a b : EReal => a * b) e2 t2)) (congrArg₂ (fun a b : EReal => a * b) e3 t3)

/-! ## The sum over the devices -/

theorem acc_apply (o l : FVec Ideal S1024x1024 .bf16) (i p : Fin 1024) : acc o l (ix2 i p) = o (ix2 i p) + l (ix2 i p) := by
  pointwise [acc]

/-- A sum taken round the ring, one way -/
theorem sum_round (f : Dev nD → EReal) (c : Dev nD) : f c + (f (prv c) + (f (prv (prv c)) + f (prv (prv (prv c))))) = ∑ d : Dev nD, f d := by
  refine Eq.trans ?_ (Fin.sum_univ_four f).symm
  match c with
  | 0 => show f 0 + (f 3 + (f 2 + f 1)) = f 0 + f 1 + f 2 + f 3; abel
  | 1 => show f 1 + (f 0 + (f 3 + f 2)) = f 0 + f 1 + f 2 + f 3; abel
  | 2 => show f 2 + (f 1 + (f 0 + f 3)) = f 0 + f 1 + f 2 + f 3; abel
  | 3 => show f 3 + (f 2 + (f 1 + f 0)) = f 0 + f 1 + f 2 + f 3; abel

/-- and the other. -/
theorem sum_round' (f : Dev nD → EReal) (c : Dev nD) : f c + (f (nxt c) + (f (nxt (nxt c)) + f (nxt (nxt (nxt c))))) = ∑ d : Dev nD, f d := by
  refine Eq.trans ?_ (Fin.sum_univ_four f).symm
  match c with
  | 0 => show f 0 + (f 1 + (f 2 + f 3)) = f 0 + f 1 + f 2 + f 3; abel
  | 1 => show f 1 + (f 2 + (f 3 + f 0)) = f 0 + f 1 + f 2 + f 3; abel
  | 2 => show f 2 + (f 3 + (f 0 + f 1)) = f 0 + f 1 + f 2 + f 3; abel
  | 3 => show f 3 + (f 0 + (f 1 + f 2)) = f 0 + f 1 + f 2 + f 3; abel

theorem chunkA_prv (c : Dev nD) : chunkA (prv c) 2 = chunkA c 3 ∧ chunkA (prv (prv c)) 1 = chunkA c 3
    ∧ chunkA (prv (prv (prv c))) 0 = chunkA c 3 := by revert c; decide
theorem chunkB_nxt (c : Dev nD) : chunkB (nxt c) 2 = chunkB c 3 ∧ chunkB (nxt (nxt c)) 1 = chunkB c 3
    ∧ chunkB (nxt (nxt (nxt c))) 0 = chunkB c 3 := by revert c; decide

/-- After three hops a sum of the first half holds every device's contribution to its chunk. -/
theorem sumA_three (c : Dev nD) (i p : Fin 1024) : sumA v 3 c (ix2 i p) = ∑ d : Dev nD, part v d (chunkA c 3) (ix2 i p) := by
  have h : sumA v 3 c = acc (part v c (chunkA c 3)) (acc (part v (prv c) (chunkA (prv c) 2))
      (acc (part v (prv (prv c)) (chunkA (prv (prv c)) 1)) (part v (prv (prv (prv c))) (chunkA (prv (prv (prv c))) 0)))) := rfl
  rw [h, (chunkA_prv c).1, (chunkA_prv c).2.1, (chunkA_prv c).2.2, acc_apply, acc_apply, acc_apply]
  exact sum_round (fun d => part v d (chunkA c 3) (ix2 i p)) c

/-- The same of the second half. -/
theorem sumB_three (c : Dev nD) (i p : Fin 1024) : sumB v 3 c (ix2 i p) = ∑ d : Dev nD, part v d (chunkB c 3) (ix2 i p) := by
  have h : sumB v 3 c = acc (part v c (chunkB c 3)) (acc (part v (nxt c) (chunkB (nxt c) 2))
      (acc (part v (nxt (nxt c)) (chunkB (nxt (nxt c)) 1)) (part v (nxt (nxt (nxt c))) (chunkB (nxt (nxt (nxt c))) 0)))) := rfl
  rw [h, (chunkB_nxt c).1, (chunkB_nxt c).2.1, (chunkB_nxt c).2.2, acc_apply, acc_apply, acc_apply]
  exact sum_round' (fun d => part v d (chunkB c 3) (ix2 i p)) c

/-- A finished chunk is the sum of the devices' contributions to it. -/
theorem finished_apply (r : Fin 8) (i p : Fin 1024) : finished v r (ix2 i p) = ∑ d : Dev nD, part v d r (ix2 i p) := by
  unfold finished
  split
  · rw [sumA_three]
    have : chunkA ⟨(r.val + 3) % 4, Nat.mod_lt _ (by decide)⟩ 3 = r := Fin.ext (by show ((r.val + 3) % 4 + 3 * 3) % 4 = r.val; omega)
    rw [this]
  · rw [sumB_three]
    have : chunkB ⟨(r.val + 1) % 4, Nat.mod_lt _ (by decide)⟩ 3 = r := Fin.ext (by show 4 + ((r.val + 1) % 4 + 3) % 4 = r.val; omega)
    rw [this]

end Cert.Conv

end
-- ==== Proof.Equation.lean ====
/-
The kernel's result over the extended reals is the problem's mathematics, where the devices hold
the blocks of the whole arrays.
-/
module

public import proofs.«01_k».proof.Proof.KernelValue
public import proofs.«01_k».proof.Proof.Run
public import Idealize.ShloMosaic.Lib.Layout

@[expose] public section

noncomputable section

namespace Cert.Conv

open Cert.KernelIdeal Cert.KernelIdeal.Gen
open Idealize.ShloMosaic
open Idealize.ShloMosaic.TcCoe

/-- Where a device's channel lies among all channels. -/
def chan (c : Dev nD) (j : Fin 1024) : Fin 4096 := ⟨c.val * 1024 + j.val, by have h : c.val < 4 := c.isLt; omega⟩

/-- Batches laid end to end, at an index, -/
theorem flat_rows (A : FVec Ideal S2x4096x1024 .f32) (R : Fin 8192) (j : Fin 1024) :
    shapeCast S8192x1024 A shapeCasts_S2x4096x1024_S8192x1024 (ix2 R j) = A (ix3 ⟨R.val / 4096, by omega⟩ ⟨R.val % 4096, by omega⟩ j) := by
  pointwise

/-- and taken apart again. -/
theorem split_rows (A : FVec Ideal S8192x1024 .bf16) (b : Fin 2) (s : Fin 4096) (p : Fin 1024) :
    shapeCast S2x4096x1024 A shapeCasts_S8192x1024_S2x4096x1024 (ix3 b s p) = A (ix2 ⟨b.val * 4096 + s.val, by omega⟩ p) := by
  pointwise

variable (m : (ℓ : Loc nD τ sig) → Buf (Elt Ideal) ℓ)

/-- The region's input is the argument, its batches laid end to end. -/
theorem V_rows (c : Dev nD) : V m c main_v1 = shapeCast S8192x1024 (m ((c : Thread nD τ).loc main_arg0)) shapeCasts_S2x4096x1024_S8192x1024 := by
  show (StableHlo.unary main_arg2 main_v2 ((fun x : FVec Ideal S1024x1024 .f32 => (truncf .bf16 x bitsLt_bf16_f32 : FVec Ideal S1024x1024 .bf16)) : (⟨S1024x1024, .f32⟩ : BufTy).Contents (Elt Ideal) → (⟨S1024x1024, .bf16⟩ : BufTy).Contents (Elt Ideal))).result
    ((StableHlo.reshape main_arg0 main_v1 (rfl : (.f32 : EltTy) = .f32) shapeCasts_S2x4096x1024_S8192x1024).result (fun b => m (c, b))) (Proc.devRef .tc main_v1) = _
  rw [StableHlo.unary_result_ne' (h := by decide), StableHlo.reshape_result']; rfl

/-- The region's weight is the argument. -/
theorem V_weight (c : Dev nD) : V m c main_v2 = (truncf .bf16 (show FVec Ideal S1024x1024 .f32 from m ((c : Thread nD τ).loc main_arg2)) bitsLt_bf16_f32 : FVec Ideal S1024x1024 .bf16) := by
  show (StableHlo.unary main_arg2 main_v2 ((fun x : FVec Ideal S1024x1024 .f32 => (truncf .bf16 x bitsLt_bf16_f32 : FVec Ideal S1024x1024 .bf16)) : (⟨S1024x1024, .f32⟩ : BufTy).Contents (Elt Ideal) → (⟨S1024x1024, .bf16⟩ : BufTy).Contents (Elt Ideal))).result
    ((StableHlo.reshape main_arg0 main_v1 (rfl : (.f32 : EltTy) = .f32) shapeCasts_S2x4096x1024_S8192x1024).result (fun b => m (c, b))) (Proc.devRef .tc main_v2) = _
  rw [StableHlo.unary_result', StableHlo.reshape_result_ne' (h := by decide)]

/-- What the region holds of the input, -/
theorem vals_x (c : Dev nD) (R : Fin 8192) (j : Fin 1024) :
    ((vals m).x c : S8192x1024.Idx → EReal) (ix2 R j)
      = (m ((c : Thread nD τ).loc main_arg0) : S2x4096x1024.Idx → EReal) (ix3 ⟨R.val / 4096, by omega⟩ ⟨R.val % 4096, by omega⟩ j) := by
  refine (congrFun (V_rows m c) (ix2 R j)).trans (flat_rows _ R j)

/-- of the taps, -/
theorem vals_k (c : Dev nD) (u : Fin 4) (j : Fin 1024) :
    ((vals m).k c : S4x1024.Idx → EReal) (ix2 u j) = (m ((c : Thread nD τ).loc main_arg1) : S4x1024.Idx → EReal) (ix2 u j) := by
  refine Eq.trans ?_ (congrFun (V_main_arg1 m c) (ix2 u j))
  refine congrArg (V m c main_arg1 : S4x1024.Idx → EReal) (funext fun a => Fin.ext ?_)
  match a with
  | 0 => exact (Nat.zero_add _).trans (Nat.one_mul u.val)
  | 1 => exact (Nat.zero_add _).trans (Nat.one_mul j.val)

/-- and of the weight. -/
theorem vals_w (c : Dev nD) (i j : Fin 1024) :
    ((vals m).w c : S1024x1024.Idx → EReal) (ix2 i j) = (m ((c : Thread nD τ).loc main_arg2) : S1024x1024.Idx → EReal) (ix2 i j) := by
  refine Eq.trans ?_ (congrFun (V_weight m c) (ix2 i j))
  refine congrArg (V m c main_v2 : S1024x1024.Idx → EReal) (funext fun a => Fin.ext ?_)
  match a with
  | 0 => exact (Nat.zero_add _).trans (Nat.one_mul i.val)
  | 1 => exact (Nat.zero_add _).trans (Nat.one_mul j.val)

variable (X : Xs) (K : Ks) (W : Ws)

/-- A device's block of the input at an index, -/
theorem block_x (A : S2x4096x1024.Idx → EReal) (c : Dev nD) (h : A = Layout.block ⟨3, ![2, 4096, 1024]⟩ ⟨3, ![2, 4096, 4096]⟩ 2 4 c X)
    (b : Fin 2) (s : Fin 4096) (j : Fin 1024) : A (ix3 b s j) = X (ix3 b s (chan c j)) := by
  rw [h]
  show X _ = X _
  refine congrArg X (funext fun a => Fin.ext ?_)
  match a with | 0 => rfl | 1 => rfl | 2 => rfl

/-- of the taps, -/
theorem block_k (A : S4x1024.Idx → EReal) (c : Dev nD) (h : A = Layout.block ⟨2, ![4, 1024]⟩ ⟨2, ![4, 4096]⟩ 1 4 c K)
    (u : Fin 4) (j : Fin 1024) : A (ix2 u j) = K (ix2 u (chan c j)) := by
  rw [h]
  show K _ = K _
  refine congrArg K (funext fun a => Fin.ext ?_)
  match a with | 0 => rfl | 1 => rfl

/-- and of the weight. -/
theorem block_w (A : S1024x1024.Idx → EReal) (c : Dev nD) (h : A = Layout.block ⟨2, ![1024, 1024]⟩ ⟨2, ![4096, 1024]⟩ 0 4 c W)
    (i p : Fin 1024) : A (ix2 i p) = W (ix2 (chan c i) p) := by
  rw [h]
  show W _ = W _
  refine congrArg W (funext fun a => Fin.ext ?_)
  match a with | 0 => rfl | 1 => rfl

variable (hX : ∀ (c : Dev nD) (b : Fin 2) (s : Fin 4096) (j : Fin 1024),
  (m ((c : Thread nD τ).loc main_arg0) : S2x4096x1024.Idx → EReal) (ix3 b s j) = X (ix3 b s (chan c j)))
variable (hK : ∀ (c : Dev nD) (u : Fin 4) (j : Fin 1024),
  (m ((c : Thread nD τ).loc main_arg1) : S4x1024.Idx → EReal) (ix2 u j) = K (ix2 u (chan c j)))
variable (hW : ∀ (c : Dev nD) (i p : Fin 1024),
  (m ((c : Thread nD τ).loc main_arg2) : S1024x1024.Idx → EReal) (ix2 i p) = W (ix2 (chan c i) p))

include hX in
/-- What tap `u` meets in the kernel is what it meets in the whole input. -/
theorem met_eq (c : Dev nD) (r : Fin 8) (i : Fin 1024) (u : Fin 4) (j : Fin 1024) :
    metAt (vals m) c r i u j = rowAt X ⟨r.val / 4, by omega⟩ ⟨r.val % 4 * 1024 + i.val, by omega⟩ u (chan c j) := by
  unfold metAt rowAt
  by_cases h : r.val % 4 * 1024 + i.val + u.val < 3
  · rw [dif_pos h, dif_pos (by show u.val + (r.val % 4 * 1024 + i.val) < 3; omega)]
  · rw [dif_neg h, dif_neg (by show ¬ u.val + (r.val % 4 * 1024 + i.val) < 3; omega), vals_x, hX]
    refine congrArg X (congrArg₂ (fun b s => ix3 b s _) (Fin.ext ?_) (Fin.ext ?_))
    · show (1024 * r.val + i.val + u.val - 3) / 4096 = r.val / 4
      omega
    · show (1024 * r.val + i.val + u.val - 3) % 4096 = u.val + (r.val % 4 * 1024 + i.val) - 3
      omega

include hX hK hW in
/-- A device's contribution to a chunk is its share of the result there. -/
theorem part_eq (c : Dev nD) (r : Fin 8) (i p : Fin 1024) :
    part (vals m) c r (ix2 i p) = shareAt X K W c ⟨r.val / 4, by omega⟩ ⟨r.val % 4 * 1024 + i.val, by omega⟩ p := by
  rw [part_apply]
  unfold shareAt convAt
  refine Finset.sum_congr rfl fun j _ => ?_
  rw [vals_w, hW]
  refine congrArg (fun z => act z * _) (Finset.sum_congr rfl fun u _ => ?_)
  rw [met_eq m X hX, vals_k, hK]
  rfl

include hX hK hW in
/-- The kernel's result at an index. -/
theorem kernel_value (b : Fin 2) (s : Fin 4096) (p : Fin 1024) :
    shapeCast S2x4096x1024 (assembled (vals m)) shapeCasts_S8192x1024_S2x4096x1024 (ix3 b s p) = resultAt X K W b s p := by
  have h : shapeCast S2x4096x1024 (assembled (vals m)) shapeCasts_S8192x1024_S2x4096x1024 (ix3 b s p)
      = assembled (vals m) (ix2 ⟨b.val * 4096 + s.val, by omega⟩ p) := split_rows _ b s p
  rw [h]
  have h' : assembled (vals m) (ix2 ⟨b.val * 4096 + s.val, by omega⟩ p)
      = finished (vals m) ⟨(b.val * 4096 + s.val) / 1024, by omega⟩ (ix2 ⟨(b.val * 4096 + s.val) % 1024, by omega⟩ p) := by
    unfold assembled
    refine congrArg (finished (vals m) _) (funext fun a => ?_)
    match a with | 0 => rfl | 1 => rfl
  rw [h', finished_apply, ← sum_shares]
  refine Finset.sum_congr rfl fun c _ => ?_
  rw [part_eq m X K W hX hK hW]
  refine congrArg₂ (fun b s => shareAt X K W c b s p) (Fin.ext ?_) (Fin.ext ?_)
  · show (b.val * 4096 + s.val) / 1024 / 4 = b.val
    omega
  · show (b.val * 4096 + s.val) / 1024 % 4 * 1024 + (b.val * 4096 + s.val) % 1024 = s.val
    omega

end Cert.Conv

end
-- ==== Proof.lean ====
/-
The claims of this certificate: the kernel runs to its end over the machine's floats and over
the reals, the reference does, the ideal program is the kernel's, and over the reals the kernel's
result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every type of elements has a value, over the machine's words. -/
instance wordsNonempty (e : EltTy) : Nonempty (Elt Bits e) := by cases e <;> exact ⟨(0 : BitVec _)⟩

/-- Every type of elements has a value, over the reals. -/
instance realsNonempty (e : EltTy) : Nonempty (Elt Ideal e) := by cases e <;> first | exact ⟨(0 : BitVec _)⟩ | exact ⟨(0 : EReal)⟩

/-- The two programs have the same body of the call, -/
theorem bodies_eq : Cert.Kernel.defs₀ (F := Bits) = Cert.KernelIdeal.defs₀ (F := Bits) := by
  unfold Cert.Kernel.defs₀ Cert.KernelIdeal.defs₀
  congr 1
  funext l
  match l with
  | 0 => funext x; rfl
  | ⟨n + 1, h⟩ => exact absurd h (Nat.not_lt.2 (Nat.le_add_left _ _))

/-- and so the same table of code. -/
theorem defs_eq : Cert.Kernel.defs (F := Bits) = Cert.KernelIdeal.defs (F := Bits) :=
  congrArg (Pipeline.defs (Cert.KernelIdeal.pcfgs (F := Bits))) bodies_eq

/-- The kernel ends, leaves its arguments alone and every counter at zero. -/
theorem frame_kernel : Cert.quiescent_Kernel := fun m ρ _ => by
  rw [defs_eq]
  exact (θ_run Cert.KernelIdeal.defs _ _).mono (fun _ h => ⟨fun c => (h.1 c).2, h.2⟩) (Cert.Conv.run_main (F := Bits) m ρ)

/-- So does its ideal program. -/
theorem frame_kernelIdeal : Cert.quiescent_KernelIdeal := fun m ρ _ =>
  (θ_run Cert.KernelIdeal.defs _ _).mono (fun _ h => ⟨fun c => (h.1 c).2, h.2⟩) (Cert.Conv.run_main (F := Ideal) m ρ)

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the same whole arrays, every device ends with the reference's result. -/
theorem algebraic : Cert.algebraic_KernelIdeal_ReferenceIdeal := fun m g m' g' _ hm => by
  refine ⟨Cert.ReferenceIdeal.Value.res_main_v37 (F := Ideal) m' 0, ?_, ?_⟩
  · refine (θ_run Cert.KernelIdeal.defs _ _).mono (fun _ h c => ⟨(h.1 c).1.trans ?_, (h.1 c).2⟩) (Cert.Conv.run_main (F := Ideal) m g)
    funext i
    rw [eq_ix3 i]
    exact (Cert.Conv.kernel_value m _ _ _
      (fun c => Cert.Conv.block_x _ _ c (hm c).1) (fun c => Cert.Conv.block_k _ _ c (hm c).2.1) (fun c => Cert.Conv.block_w _ _ c (hm c).2.2) _ _ _).trans
      (Cert.Conv.ref_value m' 0 _ _ _).symm
  · exact (θ_run Cert.ReferenceIdeal.defs _ _).mono (fun _ h => h 0) (Cert.ReferenceIdeal.Value.run (F := Ideal) m' g')

/-- All claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
